-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x1024 .f32) (main_arg2 : FVec F S2x256x4x64 .f32) (main_arg3 : FVec F S2x256x4x64 .f32) (main_arg4 : FVec F S1024x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .f32) (main_arg1 : FVec F S512x1024 .f32) (main_arg2 : FVec F S2x256x16x64 .f32) (main_arg3 : FVec F S2x256x16x64 .f32) (main_arg4 : FVec F S1024x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x256x16x64 .f32 := Host.absf main_arg2
  let main_cst_2 : FVec F S_ .f32 := constant S_ .f32 0x7F800000#32
  let main_v10 : FVec F S2x256x16x64 .f32 := broadcastInDim S2x256x16x64 ![] bcast_S_S2x256x16x64 main_cst_2
  let main_v11 : IVec S2x256x16x64 1 := cmpf .olt main_v9 main_v10
  let main_c_3 : IVec S_ 1 := constantI S_ 1 1#1
  let main_v12 : IVec S_ 1 := (fun x v => Host.reduce IntOp.andi x v reducesTo_S2x256x16x64_S_d0_1_2_3 h_S_) main_v11 main_c_3
  let main_v13 : IVec S_ 1 := andi main_v8 main_v12
  main_v13
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩
abbrev S512x256 : Shape := ⟨2, ![512, 256]⟩
abbrev S2x256x256 : Shape := ⟨3, ![2, 256, 256]⟩
abbrev S2x4x64x256 : Shape := ⟨4, ![2, 4, 64, 256]⟩
abbrev S3x2x256x256 : Shape := ⟨4, ![3, 2, 256, 256]⟩
abbrev S3x2x2 : Shape := ⟨3, ![3, 2, 2]⟩
abbrev S256x256 : Shape := ⟨2, ![256, 256]⟩
abbrev S1x256x64 : Shape := ⟨3, ![1, 256, 64]⟩
abbrev S256x64 : Shape := ⟨2, ![256, 64]⟩
abbrev S1x1x64x256 : Shape := ⟨4, ![1, 1, 64, 256]⟩
abbrev S64x256 : Shape := ⟨2, ![64, 256]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x1x1 : Shape := ⟨3, ![1, 1, 1]⟩
abbrev S1x1x256x128 : Shape := ⟨4, ![1, 1, 256, 128]⟩
abbrev S1x256x256 : Shape := ⟨3, ![1, 256, 256]⟩
abbrev S256x512 : Shape := ⟨2, ![256, 512]⟩
abbrev S1x1x256x256 : Shape := ⟨4, ![1, 1, 256, 256]⟩
abbrev S1x256x512 : Shape := ⟨3, ![1, 256, 512]⟩

abbrev nBuf : Space → Nat
  | .hbm => 27
  | .vmem => 7
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x4x64, .f32⟩
  | .hbm, ⟨3, _⟩ => ⟨S2x256x4x64, .f32⟩
  | .hbm, ⟨4, _⟩ => ⟨S1024x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S2x256x256, .f32⟩
  | .hbm, ⟨21, _⟩ => ⟨S_, .f32⟩
  | .hbm, ⟨22, _⟩ => ⟨S2x256x256, .f32⟩
  | .hbm, ⟨23, _⟩ => ⟨S2x256x256, .f32⟩
  | .hbm, ⟨24, _⟩ => ⟨S2x4x64x256, .f32⟩
  | .hbm, ⟨25, _⟩ => ⟨S2x4x64x256, .f32⟩
  | .hbm, ⟨26, _⟩ => ⟨S2x256x512, .bf16⟩
  | .local _ .vmem, ⟨0, _⟩ => ⟨S1024x512, .f32⟩
  | .local _ .vmem, ⟨1, _⟩ => ⟨S2x256x256, .f32⟩
  | .local _ .vmem, ⟨2, _⟩ => ⟨S2x4x64x256, .f32⟩
  | .local _ .vmem, ⟨3, _⟩ => ⟨S2x4x64x256, .f32⟩
  | .local _ .vmem, ⟨4, _⟩ => ⟨S2x256x512, .bf16⟩
  | .local _ .vmem, ⟨5, _⟩ => ⟨S2x256x256, .bf16⟩
  | .local _ .vmem, ⟨6, _⟩ => ⟨S3x2x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_79 : BitVec 32 := 1#32
  let v129 : BitVec 32 := Scalar.muli v24 c1_i32_79
  let v130 : BitVec 32 := Scalar.addi c0_i32_80 v129
  v130.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_94 : BitVec 32 := 1#32
  let v139 : BitVec 32 := Scalar.muli v13 c1_i32_94
  let v140 : BitVec 32 := Scalar.addi c0_i32_95 v139
  v140.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_109 : BitVec 32 := 1#32
  let v149 : BitVec 32 := Scalar.muli v35 c1_i32_109
  let v150 : BitVec 32 := Scalar.addi c0_i32_110 v149
  v150.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_153 : BitVec 32 := 1#32
  let v194 : BitVec 32 := Scalar.muli v24 c1_i32_153
  let v195 : BitVec 32 := Scalar.addi c0_i32_154 v194
  v195.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_167 : BitVec 32 := 1#32
  let v204 : BitVec 32 := Scalar.muli v13 c1_i32_167
  let v205 : BitVec 32 := Scalar.addi c0_i32_168 v204
  v205.toNat
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_182 : BitVec 32 := 1#32
  let v214 : BitVec 32 := Scalar.muli v35 c1_i32_182
  let v215 : BitVec 32 := Scalar.addi c0_i32_183 v214
  v215.toNat
def k0_dev10 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_230 : BitVec 32 := 1#32
  let v259 : BitVec 32 := Scalar.muli v24 c1_i32_230
  let v260 : BitVec 32 := Scalar.addi c0_i32_231 v259
  v260.toNat
def k0_dev11 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_245 : BitVec 32 := 1#32
  let v269 : BitVec 32 := Scalar.muli v13 c1_i32_245
  let v270 : BitVec 32 := Scalar.addi c0_i32_246 v269
  v270.toNat
def k0_dev12 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_260 : BitVec 32 := 1#32
  let v279 : BitVec 32 := Scalar.muli v35 c1_i32_260
  let v280 : BitVec 32 := Scalar.addi c0_i32_261 v279
  v280.toNat
def k0_dev13 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_308 : BitVec 32 := 1#32
  let v324 : BitVec 32 := Scalar.muli v24 c1_i32_308
  let v325 : BitVec 32 := Scalar.addi c0_i32_309 v324
  v325.toNat
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_323 : BitVec 32 := 1#32
  let v334 : BitVec 32 := Scalar.muli v13 c1_i32_323
  let v335 : BitVec 32 := Scalar.addi c0_i32_324 v334
  v335.toNat
def k0_dev15 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_338 : BitVec 32 := 1#32
  let v344 : BitVec 32 := Scalar.muli v35 c1_i32_338
  let v345 : BitVec 32 := Scalar.addi c0_i32_339 v344
  v345.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v356 : BitVec 32 := Scalar.muli v2 c256_i32
  let v357 : Index := Scalar.indexCast v356
  let c0_347 : Index := 0#32
  ![v357.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_383 : BitVec 32 := 256#32
  let v380 : BitVec 32 := Scalar.muli v13 c256_i32_383
  let v381 : Index := Scalar.indexCast v380
  let c0_384 : Index := 0#32
  ![v381.toNat, 0]
def k0_off3 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_420 : BitVec 32 := 256#32
  let v405 : BitVec 32 := Scalar.muli v24 c256_i32_420
  let v406 : Index := Scalar.indexCast v405
  let c0_421 : Index := 0#32
  ![v406.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 90
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x16x64, .f32⟩
  | .hbm, ⟨3, _⟩ => ⟨S2x256x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S2x16x256x256, .f32⟩
  | .hbm, ⟨51, _⟩ => ⟨S_, .f32⟩
  | .hbm, ⟨52, _⟩ => ⟨S2x16x256x256, .f32⟩
  | .hbm, ⟨53, _⟩ => ⟨S2x16x256x256, .f32⟩
  | .hbm, ⟨54, _⟩ => ⟨S1x1x256x256, .i1⟩
  | .hbm, ⟨55, _⟩ => ⟨S_, .f32⟩
  | .hbm, ⟨56, _⟩ => ⟨S_, .f32⟩
  | .hbm, ⟨57, _⟩ => ⟨S2x16x256x256, .i1⟩
  | .hbm, ⟨58, _⟩ => ⟨S2x16x256x256, .f32⟩
  | .hbm, ⟨59, _⟩ => ⟨S2x16x256x256, .f32⟩
  | .hbm, ⟨60, _⟩ => ⟨S_, .f32⟩
  | .hbm, ⟨61, _⟩ => ⟨S2x16x256, .f32⟩
  | .hbm, ⟨62, _⟩ => ⟨S2x16x256x1, .f32⟩
  | .hbm, ⟨63, _⟩ => ⟨S2x16x256x256, .f32⟩
  | .hbm, ⟨64, _⟩ => ⟨S2x16x256x256, .f32⟩
  | .hbm, ⟨65, _⟩ => ⟨S2x16x256x256, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S2x16x256, .f32⟩
  | .hbm, ⟨71, _⟩ => ⟨S2x16x256x1, .f32⟩
  | .hbm, ⟨72, _⟩ => ⟨S_, .f32⟩
  | .hbm, ⟨73, _⟩ => ⟨S_, .f32⟩
  | .hbm, ⟨74, _⟩ => ⟨S2x16x256x1, .i1⟩
  | .hbm, ⟨75, _⟩ => ⟨S2x16x256x1, .f32⟩
  | .hbm, ⟨76, _⟩ => ⟨S2x16x256x1, .f32⟩
  | .hbm, ⟨77, _⟩ => ⟨S2x16x256x256, .f32⟩
  | .hbm, ⟨78, _⟩ => ⟨S2x16x256x256, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S2x16x256x256, .i1⟩
  | .hbm, ⟨83, _⟩ => ⟨S2x16x256x256, .f32⟩
  | .hbm, ⟨84, _⟩ => ⟨S2x16x256x256, .f32⟩
  | .hbm, ⟨85, _⟩ => ⟨S2x16x64x256, .f32⟩
  | .hbm, ⟨86, _⟩ => ⟨S2x256x16x64, .f32⟩
  | .hbm, ⟨87, _⟩ => ⟨S2x256x1024, .f32⟩
  | .hbm, ⟨88, _⟩ => ⟨S2x256x512, .f32⟩
  | .hbm, ⟨89, _⟩ => ⟨S2x256x512, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]
-- ==== Proof.Protocol.lean ====
/-
# The exchange of the attention blocks: its cells, its schedule and its levels

Four devices. Each computes its own attention block (two batches, four heads of width 64, hence two
batches of a 256 by 256 matrix) in four pieces, one per batch and pair of heads, and copies every
piece to each of the three other devices. Slot 0 of the receive buffer takes the left neighbour's
pieces, slot 1 the right neighbour's, slot 2 the opposite device's. Every piece of every slot has a
send and a receive semaphore of its own, so each carries one round of one duty; the barrier carries
one round of three duties, one per other device, each paying with that device's receive slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.StableHlo
public import Idealize.ShloMosaic.Lib.ValueIdxCore

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices and pieces -/

/-- A piece of a slot: the slot, the batch, the pair of heads. -/
abbrev Piece : Type := Fin 3 × Fin 2 × Fin 2

/-- The device whose slot `s` device `c` fills. -/
def tgt (s : Fin 3) (c : Dev nD) : Dev nD := match s with | 0 => c + 1 | 1 => c + 3 | 2 => c + 2
/-- The device that fills slot `s` of device `c`. -/
def org (s : Fin 3) (c : Dev nD) : Dev nD := match s with | 0 => c + 3 | 1 => c + 1 | 2 => c + 2

theorem org_tgt : ∀ (s : Fin 3) (c : Dev nD), org s (tgt s c) = c := by decide
theorem tgt_org : ∀ (s : Fin 3) (c : Dev nD), tgt s (org s c) = c := by decide

def orgEquiv (s : Fin 3) : Dev nD ≃ Dev nD := ⟨org s, tgt s, tgt_org s, org_tgt s⟩
def tgtEquiv (s : Fin 3) : Dev nD ≃ Dev nD := ⟨tgt s, org s, org_tgt s, tgt_org s⟩

/-! ## Semaphores -/

def sndS (x : Piece) : DmaSem sig := ⟨5 + (4 * x.1.val + 2 * x.2.1.val + x.2.2.val), by
  have := x.1.isLt; have := x.2.1.isLt; have := x.2.2.isLt; show _ < 29; omega⟩
def rcvS (x : Piece) : DmaSem sig := ⟨17 + (4 * x.1.val + 2 * x.2.1.val + x.2.2.val), by
  have := x.1.isLt; have := x.2.1.isLt; have := x.2.2.isLt; show _ < 29; omega⟩
abbrev barS : Sem sig := (SemArray.scalar (sig.barrier 0 rfl) : Sems sig S_).sem

inductive Kind where
  | none | bar | snd (x : Piece) | rcv (x : Piece)
  deriving DecidableEq

def unPiece (n : ℕ) : Piece := (⟨n / 4 % 3, by omega⟩, ⟨n / 2 % 2, by omega⟩, ⟨n % 2, by omega⟩)

def kindOf : SemLoc sig → Kind
  | .reg _ => .bar
  | .dma q => if q.val < 5 then .none else if q.val < 17 then .snd (unPiece (q.val - 5)) else .rcv (unPiece (q.val - 17))

theorem kindOf_snd : ∀ x : Piece, kindOf (.dma (sndS x)) = .snd x := by decide
theorem kindOf_rcv : ∀ x : Piece, kindOf (.dma (rcvS x)) = .rcv x := by decide
theorem kindOf_bar : kindOf (.reg barS) = .bar := rfl

abbrev barCell (c : Dev nD) : GSem nD τ sig := ((c : Thread nD τ), .reg barS)
abbrev sndCell (c : Dev nD) (x : Piece) : GSem nD τ sig := ((c : Thread nD τ), .dma (sndS x))
abbrev rcvCell (c : Dev nD) (x : Piece) : GSem nD τ sig := ((c : Thread nD τ), .dma (rcvS x))

/-! ## The two scratch buffers and their pieces -/

abbrev aM : Memref sig .tc .vmem S2x256x256 .bf16 := Memref.whole cc0_scratch0
abbrev rM : Memref sig .tc .vmem S3x2x256x256 .bf16 := Memref.whole cc0_scratch1

theorem inbA : ∀ (b h : Fin 2) (a : Fin 3), (![b.val, 0, 128 * h.val] : Fin 3 → ℕ) a + S1x256x128.size a ≤ S2x256x256.size a := by decide
theorem inbR : ∀ (x : Piece) (a : Fin 4), (![x.1.val, x.2.1.val, 0, 128 * x.2.2.val] : Fin 4 → ℕ) a + S1x1x256x128.size a ≤ S3x2x256x256.size a := by decide

abbrev aRect (b h : Fin 2) : Rect S2x256x256 := Rect.unit (s := S2x256x256) ![b.val, 0, 128 * h.val] S1x256x128.size (inbA b h)
abbrev rRect (x : Piece) : Rect S3x2x256x256 := Rect.unit (s := S3x2x256x256) ![x.1.val, x.2.1.val, 0, 128 * x.2.2.val] S1x1x256x128.size (inbR x)

def aS (b h : Fin 2) : Memref sig .tc .vmem S256x128 .bf16 :=
  (aM.slice (aRect b h) (fun _ => rfl)).squeeze S256x128 squeezes_S1x256x128_S256x128
def rS (x : Piece) : Memref sig .tc .vmem S256x128 .bf16 :=
  (rM.slice (rRect x) (fun _ => rfl)).squeeze S256x128 squeezes_S1x1x256x128_S256x128

/-- Elements of a piece, as a condition on the index. -/
def aSet (b h : Fin 2) : Finset S2x256x256.Idx := Finset.univ.filter fun i => (i 0).val = b.val ∧ (i 2).val / 128 = h.val
def rSet (x : Piece) : Finset S3x2x256x256.Idx :=
  Finset.univ.filter fun i => (i 0).val = x.1.val ∧ (i 1).val = x.2.1.val ∧ (i 3).val / 128 = x.2.2.val

theorem aRect_set (b h : Fin 2) : (aRect b h).set = aSet b h := by
  ext i
  rw [Rect.mem_set_unit, aSet, Finset.mem_filter]
  have h0 : (i 0).val < 2 := (i 0).isLt
  have h1 : (i 1).val < 256 := (i 1).isLt
  have h2 : (i 2).val < 256 := (i 2).isLt
  have hb := b.isLt; have hh := h.isLt
  constructor
  · intro H
    have a0 : b.val ≤ (i 0).val ∧ (i 0).val < b.val + 1 := H 0
    have a2 : 128 * h.val ≤ (i 2).val ∧ (i 2).val < 128 * h.val + 128 := H 2
    exact ⟨Finset.mem_univ _, by omega, by omega⟩
  · rintro ⟨-, H0, H2⟩ a
    match a with
    | ⟨0, _⟩ => show b.val ≤ (i 0).val ∧ (i 0).val < b.val + 1; omega
    | ⟨1, _⟩ => show 0 ≤ (i 1).val ∧ (i 1).val < 0 + 256; omega
    | ⟨2, _⟩ => show 128 * h.val ≤ (i 2).val ∧ (i 2).val < 128 * h.val + 128; omega

theorem rRect_set (x : Piece) : (rRect x).set = rSet x := by
  ext i
  rw [Rect.mem_set_unit, rSet, Finset.mem_filter]
  have h2 : (i 2).val < 256 := (i 2).isLt
  have h3 : (i 3).val < 256 := (i 3).isLt
  have hb := x.1.isLt; have hh := x.2.1.isLt; have hk := x.2.2.isLt
  constructor
  · intro H
    have a0 : x.1.val ≤ (i 0).val ∧ (i 0).val < x.1.val + 1 := H 0
    have a1 : x.2.1.val ≤ (i 1).val ∧ (i 1).val < x.2.1.val + 1 := H 1
    have a3 : 128 * x.2.2.val ≤ (i 3).val ∧ (i 3).val < 128 * x.2.2.val + 128 := H 3
    exact ⟨Finset.mem_univ _, by omega, by omega, by omega⟩
  · rintro ⟨-, H0, H1, H3⟩ a
    match a with
    | ⟨0, _⟩ => show x.1.val ≤ (i 0).val ∧ (i 0).val < x.1.val + 1; omega
    | ⟨1, _⟩ => show x.2.1.val ≤ (i 1).val ∧ (i 1).val < x.2.1.val + 1; omega
    | ⟨2, _⟩ => show 0 ≤ (i 2).val ∧ (i 2).val < 0 + 256; omega
    | ⟨3, _⟩ => show 128 * x.2.2.val ≤ (i 3).val ∧ (i 3).val < 128 * x.2.2.val + 128; omega

theorem aS_set (b h : Fin 2) : (aS b h).view.set = aSet b h := by
  rw [← aRect_set]
  show (((View.whole cc0_scratch0).slice (aRect b h)).reshape S256x128 _).set = _
  rw [View.set_reshape, View.set_slice_whole]
theorem rS_set (x : Piece) : (rS x).view.set = rSet x := by
  rw [← rRect_set]
  show (((View.whole cc0_scratch1).slice (rRect x)).reshape S256x128 _).set = _
  rw [View.set_reshape, View.set_slice_whole]

/-- What one transfer credits. -/
abbrev N : ℕ := (rS (0, 0, 0)).view.dmaCredit
theorem N_pos : 0 < N := View.dmaCredit_pos _ (by decide)
theorem N_rS (x : Piece) : (rS x).view.dmaCredit = N := rfl
theorem N_aS (b h : Fin 2) : (aS b h).view.dmaCredit = N := rfl

/-- Contents of the attention block, and of the receive buffer. -/
abbrev ACont (F : FTy → Type) [FloatOps F] : Type := S2x256x256.Idx → Elt F .bf16
abbrev RCont (F : FTy → Type) [FloatOps F] : Type := S3x2x256x256.Idx → Elt F .bf16

/-- Piece (b,h) of device c's attention block at share q. -/
def aPts (c : Dev nD) (q : PosShare TreeShare) (b h : Fin 2) (f : ACont F) : sProp 𝕄 :=
  ((c : Thread nD τ).loc cc0_scratch0) ↦[aSet b h]{q} f
/-- Piece x of device c's receive buffer. -/
def rPts (c : Dev nD) (x : Piece) (f : RCont F) : sProp 𝕄 :=
  ((c : Thread nD τ).loc cc0_scratch1) ↦[rSet x]{fullShare} f

/-- What the receive buffer of device c ends at, given every device's attention block. -/
def landed (A : Dev nD → ACont F) (c : Dev nD) : RCont F := fun i => A (org (i 0) c) (ix3 (i 1) (i 2) (i 3))

/-- The share of a piece each of the three transfers reads through, and the one kept. -/
def shr (s : Fin 3) : PosShare TreeShare :=
  match s with | 0 => fullShare.left.left | 1 => fullShare.left.right | 2 => fullShare.right.left
abbrev shrK : PosShare TreeShare := fullShare.right.right

/-! ## The schedule -/

section Sched

variable (A : Dev nD → ACont F)

/-- Paid to device c's barrier by device `tgt s c`: its slot s, and that no transfer has landed there. -/
def barPay (c : Dev nD) (s : Fin 3) : sProp 𝕄 :=
  bigSep (Finset.univ : Finset (Fin 2 × Fin 2)) fun y => iprop((∃ f, rPts (F := F) (tgt s c) (s, y) f) ∗ reached ER (rcvCell (tgt s c) (s, y)) 0)

def dutiesOf : Kind → Finset (Fin 3) | .none => ∅ | .bar => Finset.univ | .snd _ => {0} | .rcv _ => {0}
def amountOf : Kind → ℕ | .bar => 1 | _ => N
def payOf (c : Dev nD) (d : Fin 3) : Kind → sProp 𝕄
  | .none => iprop(emp)
  | .bar => barPay c d
  | .snd x => aPts c (shr x.1) x.2.1 x.2.2 (A c)
  | .rcv x => rPts c x (landed A c)

def rd : Rounds.Schedule (GSem nD τ sig) (Fin 3) 𝕄 where
  duties g r := if r = 0 ∧ g.1.2 = .tc then dutiesOf (kindOf g.2) else ∅
  amount g _ _ := amountOf (kindOf g.2)
  payload g _ d := payOf A g.1.1 d (kindOf g.2)
  amount_pos g r d _ := by
    show 0 < amountOf (kindOf g.2)
    cases kindOf g.2 <;> first | exact Nat.one_pos | exact N_pos

instance rd_storable (g : GSem nD τ sig) (r : ℕ) (d : Fin 3) : BI.Storable (upEmb : UEmb _ 𝕄) ((rd A).payload g r d) := by
  show BI.Storable upEmb (payOf A g.1.1 d (kindOf g.2))
  unfold payOf barPay rPts aPts
  split <;> infer_instance

theorem duties_later (g : GSem nD τ sig) : ∀ r, 1 ≤ r → (rd A).duties g r = ∅ :=
  fun r hr => by dsimp only [rd]; exact if_neg (fun h => by omega)
theorem duties_bar (c : Dev nD) : (rd A).duties (barCell c) 0 = Finset.univ := by
  dsimp only [rd]; rw [if_pos ⟨rfl, rfl⟩]; rfl
theorem duties_snd (c : Dev nD) (x : Piece) : (rd A).duties (sndCell c x) 0 = {0} := by
  dsimp only [rd]; rw [if_pos ⟨rfl, rfl⟩, kindOf_snd]; rfl
theorem duties_rcv (c : Dev nD) (x : Piece) : (rd A).duties (rcvCell c x) 0 = {0} := by
  dsimp only [rd]; rw [if_pos ⟨rfl, rfl⟩, kindOf_rcv]; rfl
theorem amount_bar (c : Dev nD) (d : Fin 3) : (rd A).amount (barCell c) 0 d = 1 := rfl
theorem amount_snd (c : Dev nD) (x : Piece) (d : Fin 3) : (rd A).amount (sndCell c x) 0 d = N := by
  dsimp only [rd]; rw [kindOf_snd]; rfl
theorem amount_rcv (c : Dev nD) (x : Piece) (d : Fin 3) : (rd A).amount (rcvCell c x) 0 d = N := by
  dsimp only [rd]; rw [kindOf_rcv]; rfl
theorem expect_bar (c : Dev nD) : (rd A).expect (barCell c) 0 = 3 := by
  unfold Schedule.expect Schedule.amountOf; rw [duties_bar]; rfl
theorem expect_snd (c : Dev nD) (x : Piece) : (rd A).expect (sndCell c x) 0 = N := by
  unfold Schedule.expect Schedule.amountOf; rw [duties_snd, Finset.sum_singleton, amount_snd]
theorem expect_rcv (c : Dev nD) (x : Piece) : (rd A).expect (rcvCell c x) 0 = N := by
  unfold Schedule.expect Schedule.amountOf; rw [duties_rcv, Finset.sum_singleton, amount_rcv]
theorem payload_bar (c : Dev nD) (d : Fin 3) : (rd A).payload (barCell c) 0 d = barPay c d := rfl
theorem payload_snd (c : Dev nD) (x : Piece) (d : Fin 3) : (rd A).payload (sndCell c x) 0 d = aPts c (shr x.1) x.2.1 x.2.2 (A c) := by
  dsimp only [rd]; rw [kindOf_snd]; rfl
theorem payload_rcv (c : Dev nD) (x : Piece) (d : Fin 3) : (rd A).payload (rcvCell c x) 0 d = rPts c x (landed A c) := by
  dsimp only [rd]; rw [kindOf_rcv]; rfl
theorem rest_bar (c : Dev nD) : bigSep ((rd A).duties (barCell c) 0 \ ∅) (fun u => (rd A).payload (barCell c) 0 u)
    = iprop(barPay (F := F) c 0 ∗ barPay c 1 ∗ barPay c 2) := by
  rw [Finset.sdiff_empty, duties_bar]
  exact bigSep_univ_eq_bigSepL [0, 1, 2] (by decide) (by decide) _
theorem rest_snd (c : Dev nD) (x : Piece) : bigSep ((rd A).duties (sndCell c x) 0 \ ∅) (fun u => (rd A).payload (sndCell c x) 0 u)
    = aPts c (shr x.1) x.2.1 x.2.2 (A c) := by
  rw [Finset.sdiff_empty, duties_snd, bigSep_singleton, payload_snd]
theorem rest_rcv (c : Dev nD) (x : Piece) : bigSep ((rd A).duties (rcvCell c x) 0 \ ∅) (fun u => (rd A).payload (rcvCell c x) 0 u)
    = rPts c x (landed A c) := by
  rw [Finset.sdiff_empty, duties_rcv, bigSep_singleton, payload_rcv]

end Sched

/-! ## What a device owes, and the levels -/

/-- The credits of a list, as tallies; the head is the outermost term. -/
def owedL : List (GSem nD τ sig × ℕ) → CellTallies nD τ sig Unit
  | [] => 0
  | p :: l => owedL l + tallyAt p.1 () p.2

theorem owedL_pos {l : List (GSem nD τ sig × ℕ)} {g : GSem nD τ sig} {u : Unit} (h : 0 < owedL l g u) : g ∈ l.map Prod.fst := by
  induction l with
  | nil => exact absurd h (Nat.lt_irrefl 0)
  | cons p l ih =>
    have h' : 0 < owedL l g u + tallyAt p.1 () p.2 g u := h
    by_cases hl : 0 < owedL l g u
    · exact List.mem_cons_of_mem _ (ih hl)
    · rw [tallyAt_apply] at h'
      by_cases e : g = p.1 ∧ u = ()
      · rw [e.1]; exact List.mem_cons_self
      · rw [if_neg e] at h'; omega

/-- The twelve transfers in program order. -/
def pieces : List Piece :=
  [(0, 0, 0), (1, 0, 0), (2, 0, 0), (0, 0, 1), (1, 0, 1), (2, 0, 1), (0, 1, 0), (1, 1, 0), (2, 1, 0), (0, 1, 1), (1, 1, 1), (2, 1, 1)]

/-- What the transfers of the pieces listed will credit elsewhere. -/
def owedP (c : Dev nD) (l : List Piece) : List (GSem nD τ sig × ℕ) := l.map fun x => (rcvCell (tgt x.1 c) x, N)

def O₀ (c : Dev nD) : CellTallies nD τ sig Unit :=
  owedL ((barCell (org 0 c), 1) :: (barCell (org 1 c), 1) :: (barCell (org 2 c), 1) :: owedP c pieces)

def L (g : GSem nD τ sig) : Finset Unit := if g.1.2 = .tc then {()} else ∅
def levOf : Kind → ℕ | .bar => 1 | .rcv _ => 2 | _ => 0
def lv (g : GSem nD τ sig) (_ : Unit) : ℕ := levOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_snd (c : Dev nD) (x : Piece) (u : Unit) : lv (sndCell c x) u = 0 := by unfold lv; rw [kindOf_snd]; rfl
theorem lv_rcv (c : Dev nD) (x : Piece) (u : Unit) : lv (rcvCell c x) u = 2 := by unfold lv; rw [kindOf_rcv]; rfl

theorem owedP_pos {c : Dev nD} {l : List Piece} {g : GSem nD τ sig} {u : Unit} (h : 0 < owedL (owedP c l) g u) :
    ∃ (d : Dev nD) (x : Piece), g = rcvCell d x := by
  obtain ⟨p, hp, hg⟩ := List.mem_map.mp (owedL_pos h)
  obtain ⟨x, -, hx⟩ := List.mem_map.mp hp
  exact ⟨tgt x.1 c, x, by rw [← hg, ← hx]⟩

theorem O₀_pos {c : Dev nD} {g : GSem nD τ sig} {u : Unit} (h : 0 < O₀ c g u) : ∃ (d : Dev nD) (sm : SemLoc sig), g = ((d : Thread nD τ), sm) ∧ 1 ≤ lv g u := by
  have h1 := owedL_pos h
  rw [List.map_cons, List.map_cons, List.map_cons] at h1
  rcases List.mem_cons.mp h1 with e | h1
  · exact ⟨_, _, e, by rw [e]; exact le_of_eq (lv_bar _ _).symm⟩
  rcases List.mem_cons.mp h1 with e | h1
  · exact ⟨_, _, e, by rw [e]; exact le_of_eq (lv_bar _ _).symm⟩
  rcases List.mem_cons.mp h1 with e | h1
  · exact ⟨_, _, e, by rw [e]; exact le_of_eq (lv_bar _ _).symm⟩
  obtain ⟨p, hp, hg⟩ := List.mem_map.mp h1
  obtain ⟨x, -, hx⟩ := List.mem_map.mp hp
  refine ⟨tgt x.1 c, .dma (rcvS x), by rw [← hg, ← hx], ?_⟩
  have e : g = rcvCell (tgt x.1 c) x := by rw [← hg, ← hx]
  rw [e, lv_rcv]; decide

theorem mayWait_bar (c : Dev nD) (l : List Piece) :
    (levAts L lv : sProp 𝕄) ⊢ MayWait (c : Thread nD τ) (.reg barS) () (owedL (owedP c l)) :=
  MayOwe.of_cut (L := L) (lev := lv) 1 (fun p hp => by rw [Finset.mem_singleton.mp hp, L_tc]; exact Finset.mem_singleton_self _)
    (fun g u hg => by obtain ⟨d, x, e⟩ := owedP_pos hg; rw [e, L_tc]; exact Finset.mem_singleton_self _)
    (fun p hp => by rw [Finset.mem_singleton.mp hp]; exact le_of_eq (lv_bar _ _))
    (fun g u hg => by obtain ⟨d, x, e⟩ := owedP_pos hg; rw [e, lv_rcv]; decide)

end Cert.Heads
-- ==== Proof.Moves.lean ====
/-
# The steps of the exchange

Where a piece of an attention block is stored and where it lands, and one lemma per synchronising step:
what it takes, what it gives.
-/
module

public import proofs.«01_k».proof.Proof.Protocol
public import Idealize.ShloMosaic.Lib.ValueLayout

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The contents of a piece -/

/-- An attention block given by its four pieces. -/
def blockOf (w : Fin 2 → Fin 2 → (S1x256x128.Idx → Elt F .bf16)) : ACont F := fun i =>
  w (i 0) ⟨(i 2).val / 128, by have : (i 2).val < 256 := (i 2).isLt; omega⟩
    (ix3 (0 : Fin 1) (i 1) (⟨(i 2).val % 128, by omega⟩ : Fin 128))

theorem access_emb (b h : Fin 2) (j : S1x256x128.Idx) (a : Fin 3) :
    ((aM.access (aRect b h)).emb j a).val = (![b.val, 0, 128 * h.val] : Fin 3 → ℕ) a + 1 * (j a).val := rfl

theorem access_set (b h : Fin 2) : (aM.access (aRect b h)).set = aSet b h := by
  rw [← aRect_set]; exact View.set_slice_whole _ _

/-- Storing a piece of an attention block leaves the block's contents there. -/
theorem stored (w : Fin 2 → Fin 2 → (S1x256x128.Idx → Elt F .bf16)) (b h : Fin 2) (f : ACont F) (i : S2x256x256.Idx) (hi : i ∈ aSet b h) :
    (aM.access (aRect b h)).write (Elt F) f (w b h) Finset.univ i = blockOf w i := by
  rw [← access_set] at hi
  obtain ⟨j, -, rfl⟩ := (Finset.mem_map (f := (aM.access (aRect b h)).emb)).mp hi
  refine (View.write_emb_of_mem (v := aM.access (aRect b h)) f (w b h) (M := Finset.univ) (Finset.mem_univ j)).trans ?_
  show w b h j = _
  have e0 := access_emb b h j 0
  have e1 := access_emb b h j 1
  have e2 := access_emb b h j 2
  have j0 : (j 0).val < 1 := (j 0).isLt
  have j1 : (j 1).val < 256 := (j 1).isLt
  have j2 : (j 2).val < 128 := (j 2).isLt
  have e0' : ((aM.access (aRect b h)).emb j 0).val = b.val := by rw [e0]; show b.val + 1 * (j 0).val = b.val; omega
  have e1' : ((aM.access (aRect b h)).emb j 1).val = (j 1).val := by rw [e1]; show 0 + 1 * (j 1).val = (j 1).val; omega
  have e2' : ((aM.access (aRect b h)).emb j 2).val = 128 * h.val + (j 2).val := by rw [e2]; show 128 * h.val + 1 * (j 2).val = _; omega
  unfold blockOf
  have q0 : (aM.access (aRect b h)).emb j 0 = b := Fin.ext e0'
  have q2 : (⟨((aM.access (aRect b h)).emb j 2).val / 128, by have : ((aM.access (aRect b h)).emb j 2).val < 256 := ((aM.access (aRect b h)).emb j 2).isLt; omega⟩ : Fin 2) = h :=
    Fin.ext (by show _ / 128 = h.val; rw [e2']; omega)
  rw [q2]
  have q3 : ix3 (0 : Fin 1) ((aM.access (aRect b h)).emb j 1) (⟨((aM.access (aRect b h)).emb j 2).val % 128, by omega⟩ : Fin 128) = j := by
    funext a
    match a with
    | ⟨0, _⟩ => exact Fin.ext (by show 0 = (j 0).val; omega)
    | ⟨1, _⟩ => exact Fin.ext e1'
    | ⟨2, _⟩ => exact Fin.ext (by show _ % 128 = (j 2).val; rw [e2']; omega)
  rw [show (aM.access (aRect b h)).emb j 0 = b from q0]
  exact (congrArg (w b h) q3).symm

theorem rS_emb (x : Piece) (y : S256x128.Idx) :
    (rS x).view.emb y = ix4 x.1 x.2.1 (⟨(y 0).val, (y 0).isLt⟩ : Fin 256)
      (⟨128 * x.2.2.val + (y 1).val, by have : (y 1).val < 128 := (y 1).isLt; have := x.2.2.isLt; omega⟩ : Fin 256) := by
  have hy : Shape.reshapeEquiv (show S256x128.numel = S1x1x256x128.numel from rfl) y = ix4 (⟨0, Nat.one_pos⟩ : Fin 1) (⟨0, Nat.one_pos⟩ : Fin 1) (y 0) (y 1) := by
    rw [ValueIdx.eq_ix2 y]; exact ValueIdx.reshapeEquiv_ix2_11ab (a := 256) (b := 128) rfl (y 0) (y 1)
  have e : (rS x).view.emb y = (View.whole cc0_scratch1).emb ((rRect x).emb (Shape.reshapeEquiv (show S256x128.numel = S1x1x256x128.numel from rfl) y)) := rfl
  rw [e, hy]
  funext a
  match a with
  | ⟨0, _⟩ => exact Fin.ext (by show x.1.val + 1 * 0 = x.1.val; omega)
  | ⟨1, _⟩ => exact Fin.ext (by show x.2.1.val + 1 * 0 = x.2.1.val; omega)
  | ⟨2, _⟩ => exact Fin.ext (by show 0 + 1 * (y 0).val = (y 0).val; omega)
  | ⟨3, _⟩ => exact Fin.ext (by show 128 * x.2.2.val + 1 * (y 1).val = 128 * x.2.2.val + (y 1).val; omega)

theorem aS_emb (b h : Fin 2) (y : S256x128.Idx) :
    (aS b h).view.emb y = ix3 b (⟨(y 0).val, (y 0).isLt⟩ : Fin 256)
      (⟨128 * h.val + (y 1).val, by have : (y 1).val < 128 := (y 1).isLt; have := h.isLt; omega⟩ : Fin 256) := by
  have hy : Shape.reshapeEquiv (show S256x128.numel = S1x256x128.numel from rfl) y = ix3 (⟨0, Nat.one_pos⟩ : Fin 1) (y 0) (y 1) := by
    rw [ValueIdx.eq_ix2 y]; exact ValueIdx.reshapeEquiv_ix2_1ab (a := 256) (b := 128) rfl (y 0) (y 1)
  have e : (aS b h).view.emb y = (View.whole cc0_scratch0).emb ((aRect b h).emb (Shape.reshapeEquiv (show S256x128.numel = S1x256x128.numel from rfl) y)) := rfl
  rw [e, hy]
  funext a
  match a with
  | ⟨0, _⟩ => exact Fin.ext (by show b.val + 1 * 0 = b.val; omega)
  | ⟨1, _⟩ => exact Fin.ext (by show 0 + 1 * (y 0).val = (y 0).val; omega)
  | ⟨2, _⟩ => exact Fin.ext (by show 128 * h.val + 1 * (y 1).val = 128 * h.val + (y 1).val; omega)

/-- A transfer leaves in its slot what the schedule says. -/
theorem sent (A : Dev nD → ACont F) (c : Dev nD) (x : Piece) (f : RCont F) (i : S3x2x256x256.Idx) (hi : i ∈ (rS x).view.set) :
    (rS x).view.write (Elt F) f ((aS x.2.1 x.2.2).view.read (Elt F) (A c)) Finset.univ i = landed A (tgt x.1 c) i := by
  obtain ⟨y, -, rfl⟩ := (Finset.mem_map (f := (rS x).view.emb)).mp hi
  refine (View.write_emb_of_mem (v := (rS x).view) f ((aS x.2.1 x.2.2).view.read (Elt F) (A c)) (M := Finset.univ) (Finset.mem_univ y)).trans ?_
  show A c ((aS x.2.1 x.2.2).view.emb y) = landed A (tgt x.1 c) ((rS x).view.emb y)
  rw [rS_emb, aS_emb]
  show A c _ = A (org x.1 (tgt x.1 c)) _
  rw [org_tgt]

/-! ## What a step takes and gives -/

variable (A : Dev nD → ACont F) (K : GSem nD τ sig → ℕ) (c : Dev nD)

def owesE (O : CellTallies nD τ sig Unit) : sProp 𝕄 := iprop(∃ W, owes (c : Thread nD τ) O W)

/-- The right to signal device `org s c`, paying its duty s. -/
def sigRes (s : Fin 3) : sProp 𝕄 :=
  iprop(cellInv ER (rd A) (K (barCell (org s c))) (barCell (org s c)) ∗ dutyTok ER (barCell (org s c)) 0 s ∗ reached ER (barCell (org s c)) 0)
/-- What that signal hands over: the own slot s, untouched. -/
def slotGive (s : Fin 3) : sProp 𝕄 :=
  bigSep (Finset.univ : Finset (Fin 2 × Fin 2)) fun y => iprop((∃ f, rPts (F := F) c (s, y) f) ∗ reached ER (rcvCell c (s, y)) 0)
/-- The right to wait on the own barrier. -/
def barRes : sProp 𝕄 :=
  iprop(cellInv ER (rd A) (K (barCell c)) (barCell c) ∗ cred (tallyAt (barCell c) () 3) ∗ atPos ER (barCell c) 0 ∅ 0)
/-- The right to send piece x. -/
def sndRes (x : Piece) : sProp 𝕄 :=
  iprop(cellInv ER (rd A) (K (sndCell c x)) (sndCell c x) ∗ cellInv ER (rd A) (K (rcvCell (tgt x.1 c) x)) (rcvCell (tgt x.1 c) x)
    ∗ dutyTok ER (sndCell c x) 0 0 ∗ reached ER (sndCell c x) 0 ∗ dutyTok ER (rcvCell (tgt x.1 c) x) 0 0 ∗ atPos ER (sndCell c x) 0 ∅ 0)
/-- The target's slot for piece x, from its barrier signal. -/
def slotRes (x : Piece) : sProp 𝕄 :=
  iprop((∃ f, rPts (F := F) (tgt x.1 c) x f) ∗ reached ER (rcvCell (tgt x.1 c) x) 0)
/-- The right to wait for the end of the sending of piece x. -/
def pend (x : Piece) : sProp 𝕄 :=
  iprop(cellInv ER (rd A) (K (sndCell c x)) (sndCell c x) ∗ cred (tallyAt (sndCell c x) () N) ∗ atPos ER (sndCell c x) 0 ∅ 0)
/-- The right to wait for the arrival of piece x. -/
def rcvRes (x : Piece) : sProp 𝕄 :=
  iprop(cellInv ER (rd A) (K (rcvCell c x)) (rcvCell c x) ∗ cred (tallyAt (rcvCell c x) () N) ∗ atPos ER (rcvCell c x) 0 ∅ 0)

theorem close (κ : ℕ) (g : GSem nD τ sig) :
    iprop(cellInv ER (rd A) κ g ∗ atPos ER g (0 + 1) ∅ 0) ⊢ (|={Set.univ}=> semVal g 0 : sProp 𝕄) :=
  Rounds.cell_close ER (rd A) (Set.mem_univ κ) id (duties_later A g)

variable {A K c}

theorem wp_sig {α : Type} {dst : Thread nD τ} {sem : Sem sig} {n : ℤ} {k : PUnit → Prog (TpuEff nD τ sig (Elt F) Λ₀ .tc) α} {Q : α → sProp 𝕄}
    (s : Fin 3) (hd : dst = ((org s c : Dev nD) : Thread nD τ)) (hs : sem = barS) (hn : n = ((1 : ℕ) : ℤ)) (l : List (GSem nD τ sig × ℕ)) :
    iprop(sigRes A K c s ∗ slotGive (F := F) c s ∗ owesE (F := F) c (owedL ((barCell (org s c), 1) :: l)))
      ⊢ iprop((owesE c (owedL l) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal dst sem n) k) Q) := by
  subst hd hs hn
  unfold sigRes owesE
  iintro ⟨⟨HI, Ht, Hr⟩, Hs, ⟨%W, HO⟩⟩ Hk
  iapply (Rounds.wp_signal 𝒱₀ ER (rd A) (c : Thread nD τ) none (dst := ((org s c : Dev nD) : Thread nD τ)) (sem := barS) (r := 0) (d := s) (κ := K (barCell (org s c)))
      (by rw [duties_bar]; exact Finset.mem_univ _) (amount_bar A (org s c) s) () (owedL l) rfl)
    $$ [HI HO Ht Hs Hr]
  · isplitl [HI]; · iexact HI
    isplitl [HO]; · iexact HO
    isplitl [Ht]; · iexact Ht
    isplitl [Hs]
    · rw [payload_bar]; unfold barPay; rw [tgt_org]; unfold slotGive; iexact Hs
    iexact Hr
  iintro HO
  iapply Hk
  iexists W; iexact HO

theorem wp_bar {α : Type} {sem : Sem sig} {n : ℤ} {k : PUnit → Prog (TpuEff nD τ sig (Elt F) Λ₀ .tc) α} {Q : α → sProp 𝕄}
    (hs : sem = barS) (hn : n = ((3 : ℕ) : ℤ)) (l : List Piece) :
    iprop(barRes A K c ∗ levAts L lv ∗ owesE (F := F) c (owedL (owedP c l)))
      ⊢ iprop((iprop(owesE c (owedL (owedP c l)) ∗ semVal (barCell c) 0 ∗ barPay (F := F) c 0 ∗ barPay c 1 ∗ barPay c 2)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem n) k) Q) := by
  subst hs hn
  unfold barRes
  conv_lhs => unfold owesE
  iintro ⟨⟨#HI, Hc, Hat⟩, Hlev, ⟨%W, HO⟩⟩ Hk
  iapply (Rounds.wp_wait_rest_token 𝒱₀ ER (rd A) (c : Thread nD τ) none (κ := K (barCell c))
      (wpE_semWait_eq 𝒱₀ (c : Thread nD τ) none Set.univ) (Set.mem_univ _) () (O := owedL (owedP c l)) (W := W) (R := 0) (m := 0) (T := ∅)
      ((Nat.zero_add 3).trans (expect_bar A c).symm)) $$ [Hc HO Hat Hlev]
  · isplitr; · iexact HI
    isplitl [Hc]; · iexact Hc
    isplitl [HO]; · iexact HO
    isplitl [Hlev]; · iapply (mayWait_bar c l); iexact Hlev
    iexact Hat
  iintro ⟨HO, Hat, -, Hpay⟩
  ihave Hp := (Entails.of_eq (rest_bar A c)) $$ Hpay
  imod (close A (K (barCell c)) (barCell c)) $$ [Hat] with Hb0
  · isplitr; · iexact HI
    iexact Hat
  iapply Hk
  isplitl [HO]; · unfold owesE; iexists _; iexact HO
  isplitl [Hb0]; · iexact Hb0
  iexact Hp

theorem wp_snd {α : Type} {src dst : Memref sig .tc .vmem S256x128 .bf16} {n : Dev nD} {qS qR : DmaSem sig} {hsc} {hsrc} {hdst} {hsem}
    {k : PUnit → Prog (TpuEff nD τ sig (Elt F) Λ₀ .tc) α} {Q : α → sProp 𝕄}
    (x : Piece) (hs : src = aS x.2.1 x.2.2) (hd : dst = rS x) (hn : n = tgt x.1 c) (hqS : qS = sndS x) (hqR : qR = rcvS x) (l : List Piece) :
    iprop(sndRes A K c x ∗ slotRes (F := F) c x ∗ aPts c (shr x.1) x.2.1 x.2.2 (A c) ∗ owesE (F := F) c (owedL (owedP c (x :: l))))
      ⊢ iprop((iprop(pend A K c x ∗ owesE c (owedL (owedP c l)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n) dst (.dma qS) hsc) (.dma qR) hsrc hdst hsem) k) Q) := by
  subst hs hd hn hqS hqR
  unfold sndRes slotRes
  conv_lhs => unfold owesE
  iintro ⟨⟨#HIs, HIr, HtS, HrS, HtR, Hat⟩, ⟨⟨%fd, Hdst⟩, HrR⟩, Hsrc, ⟨%W, HO⟩⟩ Hk
  iapply (Rounds.wp_send_pointsTo 𝒱₀ ER (rd A) (c : Thread nD τ) none (c' := ((tgt x.1 c : Dev nD) : Thread nD τ)) (src := aS x.2.1 x.2.2) (dst := rS x)
      (sS := .dma (sndS x)) (sem := .dma (rcvS x)) (q := shr x.1) (fs := A c) (κ₁ := K (sndCell c x)) (κ₂ := K (rcvCell (tgt x.1 c) x))
      (r₁ := 0) (r₂ := 0) (d₁ := 0) (d₂ := 0) (fd := fd)
      (by rw [duties_snd]; exact Finset.mem_singleton_self _) (by rw [duties_rcv]; exact Finset.mem_singleton_self _)
      () () N rfl (amount_snd A c x 0) (amount_rcv A (tgt x.1 c) x 0) (owedL (owedP c l)) rfl (W := W)
      (by rw [payload_snd]; unfold aPts; rw [aS_set]; exact BI.Entails.refl _)
      (by rw [payload_rcv, pointsTo_congr (fun i hi => sent A c x fd i hi)]; unfold rPts; rw [rS_set]; exact BI.Entails.refl _)) $$ [HIr HtS HrS HtR HrR Hsrc Hdst HO]
  · isplitr; · iexact HIs
    isplitl [HIr]; · iexact HIr
    isplitl [Hsrc]; · unfold aPts; rw [aS_set]; iexact Hsrc
    isplitl [Hdst]; · unfold rPts; rw [rS_set]; iexact Hdst
    isplitl [HO]; · iexact HO
    isplitl [HtS]; · iexact HtS
    isplitl [HrS]; · iexact HrS
    isplitl [HtR]; · iexact HtR
    iexact HrR
  iintro ⟨Hc, HO⟩
  iapply Hk
  isplitl [Hc Hat]
  · unfold pend
    isplitr; · iexact HIs
    isplitl [Hc]; · iexact Hc
    iexact Hat
  unfold owesE; iexists W; iexact HO

theorem wp_wsnd {α : Type} {src dst : Memref sig .tc .vmem S256x128 .bf16} {q : DmaSem sig} {h1} {h2}
    {k : PUnit → Prog (TpuEff nD τ sig (Elt F) Λ₀ .tc) α} {Q : α → sProp 𝕄}
    (x : Piece) (hd : dst = aS x.2.1 x.2.2) (hq : q = sndS x) :
    iprop(pend A K c x ∗ owesE (F := F) c 0)
      ⊢ iprop((iprop(owesE c 0 ∗ semVal (sndCell c x) 0 ∗ aPts c (shr x.1) x.2.1 x.2.2 (A c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hd hq
  unfold pend
  conv_lhs => unfold owesE
  iintro ⟨⟨#HI, Hc, Hat⟩, ⟨%W, HO⟩⟩ Hk
  iapply (Rounds.wp_wait_rest_token 𝒱₀ ER (rd A) (c : Thread nD τ) none (κ := K (sndCell c x))
      (wpE_waitDma2_eq (src := src) (dst := aS x.2.1 x.2.2) 𝒱₀ (c : Thread nD τ) none Set.univ) (Set.mem_univ _) () (O := 0) (W := W) (R := 0) (m := 0) (T := ∅)
      ((Nat.zero_add _).trans (expect_snd A c x).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_snd A c x)) $$ Hpay
  imod (close A (K (sndCell c x)) (sndCell c x)) $$ [Hat] with Hb0
  · isplitr; · iexact HI
    iexact Hat
  iapply Hk
  isplitl [HO]; · unfold owesE; iexists _; iexact HO
  isplitl [Hb0]; · iexact Hb0
  iexact Hp

theorem wp_wrcv {α : Type} {src dst : Memref sig .tc .vmem S256x128 .bf16} {q : DmaSem sig} {h1} {h2}
    {k : PUnit → Prog (TpuEff nD τ sig (Elt F) Λ₀ .tc) α} {Q : α → sProp 𝕄}
    (x : Piece) (hd : dst = rS x) (hq : q = rcvS x) :
    iprop(rcvRes A K c x ∗ owesE (F := F) c 0)
      ⊢ iprop((iprop(owesE c 0 ∗ semVal (rcvCell c x) 0 ∗ rPts c x (landed A c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hd hq
  unfold rcvRes
  conv_lhs => unfold owesE
  iintro ⟨⟨#HI, Hc, Hat⟩, ⟨%W, HO⟩⟩ Hk
  iapply (Rounds.wp_wait_rest_token 𝒱₀ ER (rd A) (c : Thread nD τ) none (κ := K (rcvCell c x))
      (wpE_waitDma2_eq (src := src) (dst := rS x) 𝒱₀ (c : Thread nD τ) none Set.univ) (Set.mem_univ _) () (O := 0) (W := W) (R := 0) (m := 0) (T := ∅)
      ((Nat.zero_add _).trans (expect_rcv A c x).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_rcv A c x)) $$ Hpay
  imod (close A (K (rcvCell c x)) (rcvCell c x)) $$ [Hat] with Hb0
  · isplitr; · iexact HI
    iexact Hat
  iapply Hk
  isplitl [HO]; · unfold owesE; iexists _; iexact HO
  isplitl [Hb0]; · iexact Hb0
  iexact Hp

end Cert.Heads
-- ==== Proof.Access.lean ====
/-
# What the kernel reads and computes, and its loads and stores
-/
module

public import proofs.«01_k».proof.Proof.Moves

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

/-! ## What the kernel reads of its windows -/

theorem inbQ : ∀ (b : Fin 2) (p : Fin 4) (a : Fin 3), (![b.val, 0, 64 * p.val] : Fin 3 → ℕ) a + S1x256x64.size a ≤ S2x256x256.size a := by decide
theorem inbK : ∀ (b : Fin 2) (p : Fin 4) (a : Fin 4), (![b.val, p.val, 0, 0] : Fin 4 → ℕ) a + S1x1x64x256.size a ≤ S2x4x64x256.size a := by decide
theorem inbC : ∀ (b : Fin 2) (a : Fin 3), (![b.val, 0, 0] : Fin 3 → ℕ) a + S1x256x256.size a ≤ S2x256x256.size a := by decide
theorem inbL : ∀ (s : Fin 3) (b : Fin 2) (a : Fin 4), (![s.val, b.val, 0, 0] : Fin 4 → ℕ) a + S1x1x256x256.size a ≤ S3x2x256x256.size a := by decide

/-- The queries of head p of batch b, out of the query window. -/
def ldQ (g : S2x256x256.Idx → Elt F .f32) (b : Fin 2) (p : Fin 4) : Vec F S1x256x64 .f32 :=
  (Memref.whole cc0_stg1_0 : Memref sig .tc .vmem S2x256x256 .f32).view.readAt (Elt F) (Rect.unit (s := S2x256x256) ![b.val, 0, 64 * p.val] S1x256x64.size (inbQ b p)).toLoadRect g
/-- The keys of head p of batch b. -/
def ldK (g : S2x4x64x256.Idx → Elt F .f32) (b : Fin 2) (p : Fin 4) : Vec F S1x1x64x256 .f32 :=
  (Memref.whole cc0_stg2_0 : Memref sig .tc .vmem S2x4x64x256 .f32).view.readAt (Elt F) (Rect.unit (s := S2x4x64x256) ![b.val, p.val, 0, 0] S1x1x64x256.size (inbK b p)).toLoadRect g
/-- The values of head p of batch b. -/
def ldV (g : S2x4x64x256.Idx → Elt F .f32) (b : Fin 2) (p : Fin 4) : Vec F S1x1x64x256 .f32 :=
  (Memref.whole cc0_stg3_0 : Memref sig .tc .vmem S2x4x64x256 .f32).view.readAt (Elt F) (Rect.unit (s := S2x4x64x256) ![b.val, p.val, 0, 0] S1x1x64x256.size (inbK b p)).toLoadRect g
/-- Rows of the output weights from a given offset. -/
def ldW (g : S1024x512.Idx → Elt F .f32) (off : Fin 2 → ℕ) (h : ∀ a, off a + S256x512.size a ≤ S1024x512.size a) : Vec F S256x512 .f32 :=
  (Memref.whole cc0_stg0_0 : Memref sig .tc .vmem S1024x512 .f32).view.readAt (Elt F) (Rect.unit (s := S1024x512) off S256x512.size h).toLoadRect g
/-- Batch b of the own attention block. -/
def ldA (g : ACont F) (b : Fin 2) : Vec F S1x256x256 .bf16 :=
  aM.view.readAt (Elt F) (Rect.unit (s := S2x256x256) ![b.val, 0, 0] S1x256x256.size (inbC b)).toLoadRect g
/-- Batch b of the attention block in slot s. -/
def ldR (g : RCont F) (s : Fin 3) (b : Fin 2) : Vec F S1x1x256x256 .bf16 :=
  rM.view.readAt (Elt F) (Rect.unit (s := S3x2x256x256) ![s.val, b.val, 0, 0] S1x1x256x256.size (inbL s b)).toLoadRect g

/-! ## What it computes -/

/-- The blocked causal mask. -/
def mask : IVec S256x256 1 :=
  k0_pay4 k0_pay1 (iota .tc S256x256 32 [1] iota_S256x256_d1_w32) 64#32 k0_pay2 k0_pay3

/-- One head. -/
def headV (q : Vec F S1x256x64 .f32) (k v : Vec F S1x1x64x256 .f32) : FVec F S256x64 .f32 := k0_pay10 mask q k v

/-- Two heads side by side: one piece. -/
def pairV (q0 : Vec F S1x256x64 .f32) (k0 v0 : Vec F S1x1x64x256 .f32) (q1 : Vec F S1x256x64 .f32) (k1 v1 : Vec F S1x1x64x256 .f32) : FVec F S1x256x128 .bf16 :=
  k0_pay12 mask (headV q0 k0 v0) (k0_pay11 q1) k1 v1

/-- The first and the second head of a pair. -/
def evn (h : Fin 2) : Fin 4 := ⟨2 * h.val, by omega⟩
def odd (h : Fin 2) : Fin 4 := ⟨2 * h.val + 1, by omega⟩

/-- Piece (b,h) of the attention block of a device whose windows hold these. -/
def pieceV (gQ : S2x256x256.Idx → Elt F .f32) (gK gV : S2x4x64x256.Idx → Elt F .f32) (b h : Fin 2) : S1x256x128.Idx → Elt F .bf16 :=
  pairV (ldQ gQ b (evn h)) (ldK gK b (evn h)) (ldV gV b (evn h)) (ldQ gQ b (odd h)) (ldK gK b (odd h)) (ldV gV b (odd h))

/-- The attention block. -/
def attnV (gQ : S2x256x256.Idx → Elt F .f32) (gK gV : S2x4x64x256.Idx → Elt F .f32) : ACont F := blockOf (pieceV gQ gK gV)

/-- Batch b of the output of device c. -/
def outV (gW : S1024x512.Idx → Elt F .f32) (c : Dev nD) (a : ACont F) (r : RCont F) (b : Fin 2) : FVec F S1x256x512 .bf16 :=
  k0_pay19 (k0_pay18 (k0_pay17 (k0_pay16 (ldA a b) (ldW gW (k0_off1 c) (k0_off1_inb c))) (ldR r 0 b) (ldW gW (k0_off2 c) (k0_off2_inb c)))
    (ldR r 1 b) (ldW gW (k0_off3 c 1#32) (k0_off3_inb c 0))) (ldR r 2 b) (ldW gW (k0_off3 c 2#32) (k0_off3_inb c 1))

/-- The output. -/
def outC (gW : S1024x512.Idx → Elt F .f32) (c : Dev nD) (a : ACont F) (r : RCont F) : S2x256x512.Idx → Elt F .bf16 := fun i =>
  outV gW c a r (i 0) (ix3 (0 : Fin 1) (i 1) (i 2))

/-! ## The windows, and their loads -/

section Windows

variable (c : Dev nD) (gW : S1024x512.Idx → Elt F .f32) (gQ : S2x256x256.Idx → Elt F .f32) (gK gV : S2x4x64x256.Idx → Elt F .f32)

def wins : sProp 𝕄 :=
  iprop((((c : Thread nD τ).loc cc0_stg0_0) ↦{fullShare} gW) ∗ (((c : Thread nD τ).loc cc0_stg1_0) ↦{fullShare} gQ)
    ∗ (((c : Thread nD τ).loc cc0_stg2_0) ↦{fullShare} gK) ∗ (((c : Thread nD τ).loc cc0_stg3_0) ↦{fullShare} gV))

variable {c gW gQ gK gV} {α : Type}

theorem wp_ldW {off : Fin 2 → ℕ} {inb} {hl} {Q : α → sProp 𝕄} {k : (S256x512.Idx → Elt F .f32) → Prog (TpuEff nD τ sig (Elt F) Λ₀ .tc) α} :
    wins c gW gQ gK gV ⊢ iprop((wins c gW gQ gK gV -∗ wp frame (wpE (defs₀ (F := F)) 𝒱₀ (c : Thread nD τ) none) Set.univ (k (ldW gW off inb)) Q)
      -∗ wp frame (wpE (defs₀ (F := F)) 𝒱₀ (c : Thread nD τ) none) Set.univ (.op (.load (Memref.whole cc0_stg0_0 : Memref sig .tc .vmem S1024x512 .f32) (Rect.unit (s := S1024x512) off S256x512.size inb).toLoadRect hl) k) Q) := by
  unfold wins
  iintro ⟨HW, HQ, HK, HV⟩ Hk
  iapply (wp_load 𝒱₀ (c : Thread nD τ) none Set.univ (m := (Memref.whole cc0_stg0_0 : Memref sig .tc .vmem S1024x512 .f32)) (S := Finset.univ) (Finset.subset_univ _)) $$ HW
  iintro HW
  iapply Hk
  isplitl [HW]; · iexact HW
  isplitl [HQ]; · iexact HQ
  isplitl [HK]; · iexact HK
  iexact HV

theorem wp_ldQ {off : Fin 3 → ℕ} {inb} {hl} {Q : α → sProp 𝕄} {k : (S1x256x64.Idx → Elt F .f32) → Prog (TpuEff nD τ sig (Elt F) Λ₀ .tc) α}
    (b : Fin 2) (p : Fin 4) (h : off = ![b.val, 0, 64 * p.val]) :
    wins c gW gQ gK gV ⊢ iprop((wins c gW gQ gK gV -∗ wp frame (wpE (defs₀ (F := F)) 𝒱₀ (c : Thread nD τ) none) Set.univ (k (ldQ gQ b p)) Q)
      -∗ wp frame (wpE (defs₀ (F := F)) 𝒱₀ (c : Thread nD τ) none) Set.univ (.op (.load (Memref.whole cc0_stg1_0 : Memref sig .tc .vmem S2x256x256 .f32) (Rect.unit (s := S2x256x256) off S1x256x64.size inb).toLoadRect hl) k) Q) := by
  subst h
  unfold wins
  iintro ⟨HW, HQ, HK, HV⟩ Hk
  iapply (wp_load 𝒱₀ (c : Thread nD τ) none Set.univ (m := (Memref.whole cc0_stg1_0 : Memref sig .tc .vmem S2x256x256 .f32)) (S := Finset.univ) (Finset.subset_univ _)) $$ HQ
  iintro HQ
  iapply Hk
  isplitl [HW]; · iexact HW
  isplitl [HQ]; · iexact HQ
  isplitl [HK]; · iexact HK
  iexact HV

theorem wp_ldK {off : Fin 4 → ℕ} {inb} {hl} {Q : α → sProp 𝕄} {k : (S1x1x64x256.Idx → Elt F .f32) → Prog (TpuEff nD τ sig (Elt F) Λ₀ .tc) α}
    (b : Fin 2) (p : Fin 4) (h : off = ![b.val, p.val, 0, 0]) :
    wins c gW gQ gK gV ⊢ iprop((wins c gW gQ gK gV -∗ wp frame (wpE (defs₀ (F := F)) 𝒱₀ (c : Thread nD τ) none) Set.univ (k (ldK gK b p)) Q)
      -∗ wp frame (wpE (defs₀ (F := F)) 𝒱₀ (c : Thread nD τ) none) Set.univ (.op (.load (Memref.whole cc0_stg2_0 : Memref sig .tc .vmem S2x4x64x256 .f32) (Rect.unit (s := S2x4x64x256) off S1x1x64x256.size inb).toLoadRect hl) k) Q) := by
  subst h
  unfold wins
  iintro ⟨HW, HQ, HK, HV⟩ Hk
  iapply (wp_load 𝒱₀ (c : Thread nD τ) none Set.univ (m := (Memref.whole cc0_stg2_0 : Memref sig .tc .vmem S2x4x64x256 .f32)) (S := Finset.univ) (Finset.subset_univ _)) $$ HK
  iintro HK
  iapply Hk
  isplitl [HW]; · iexact HW
  isplitl [HQ]; · iexact HQ
  isplitl [HK]; · iexact HK
  iexact HV

theorem wp_ldV {off : Fin 4 → ℕ} {inb} {hl} {Q : α → sProp 𝕄} {k : (S1x1x64x256.Idx → Elt F .f32) → Prog (TpuEff nD τ sig (Elt F) Λ₀ .tc) α}
    (b : Fin 2) (p : Fin 4) (h : off = ![b.val, p.val, 0, 0]) :
    wins c gW gQ gK gV ⊢ iprop((wins c gW gQ gK gV -∗ wp frame (wpE (defs₀ (F := F)) 𝒱₀ (c : Thread nD τ) none) Set.univ (k (ldV gV b p)) Q)
      -∗ wp frame (wpE (defs₀ (F := F)) 𝒱₀ (c : Thread nD τ) none) Set.univ (.op (.load (Memref.whole cc0_stg3_0 : Memref sig .tc .vmem S2x4x64x256 .f32) (Rect.unit (s := S2x4x64x256) off S1x1x64x256.size inb).toLoadRect hl) k) Q) := by
  subst h
  unfold wins
  iintro ⟨HW, HQ, HK, HV⟩ Hk
  iapply (wp_load 𝒱₀ (c : Thread nD τ) none Set.univ (m := (Memref.whole cc0_stg3_0 : Memref sig .tc .vmem S2x4x64x256 .f32)) (S := Finset.univ) (Finset.subset_univ _)) $$ HV
  iintro HV
  iapply Hk
  isplitl [HW]; · iexact HW
  isplitl [HQ]; · iexact HQ
  isplitl [HK]; · iexact HK
  iexact HV

end Windows

/-! ## The own attention block -/

section Own

variable {c : Dev nD} {α : Type} {A : Dev nD → ACont F}

/-- A piece of the own block, not computed yet. -/
def aAny (c : Dev nD) (b h : Fin 2) : sProp 𝕄 := iprop(∃ f : ACont F, aPts c fullShare b h f)

theorem wp_deadA {off : Fin 3 → ℕ} {inb} {hl} {Q : α → sProp 𝕄} {k : (S1x256x128.Idx → Elt F .bf16) → Prog (TpuEff nD τ sig (Elt F) Λ₀ .tc) α}
    (b h : Fin 2) (ho : off = ![b.val, 0, 128 * h.val]) :
    aAny (F := F) c b h ⊢ iprop((∀ v, aAny (F := F) c b h -∗ wp frame (wpE (defs₀ (F := F)) 𝒱₀ (c : Thread nD τ) none) Set.univ (k v) Q)
      -∗ wp frame (wpE (defs₀ (F := F)) 𝒱₀ (c : Thread nD τ) none) Set.univ (.op (.load aM (Rect.unit (s := S2x256x256) off S1x256x128.size inb).toLoadRect hl) k) Q) := by
  subst ho
  unfold aAny aPts
  iintro ⟨%f, Ha⟩ Hk
  iapply (wp_load_rect 𝒱₀ (c : Thread nD τ) none Set.univ (m := aM) (r := aRect b h) (S := aSet b h) (f := f) (by rw [access_set])) $$ Ha
  iintro Ha
  iapply Hk
  iexists f; iexact Ha

theorem wp_stA {off : Fin 3 → ℕ} {inb} {w : S1x256x128.Idx → Elt F .bf16} {hx} {hm} {Q : α → sProp 𝕄} {k : PUnit → Prog (TpuEff nD τ sig (Elt F) Λ₀ .tc) α}
    (b h : Fin 2) (ho : off = ![b.val, 0, 128 * h.val]) {v : Fin 2 → Fin 2 → (S1x256x128.Idx → Elt F .bf16)} (hA : A c = blockOf v) (hw : w = v b h) :
    aAny (F := F) c b h ⊢ iprop((aPts c fullShare b h (A c) -∗ wp frame (wpE (defs₀ (F := F)) 𝒱₀ (c : Thread nD τ) none) Set.univ (k ⟨⟩) Q)
      -∗ wp frame (wpE (defs₀ (F := F)) 𝒱₀ (c : Thread nD τ) none) Set.univ (.op (.store aM (Rect.unit (s := S2x256x256) off S1x256x128.size inb) w Finset.univ hx hm) k) Q) := by
  subst ho hw
  unfold aAny aPts
  iintro ⟨%f, Ha⟩ Hk
  iapply (wp_store 𝒱₀ (c : Thread nD τ) none Set.univ (m := aM) (r := aRect b h) (w := v b h) (Mk := Finset.univ) (S := aSet b h) (f := f) (by rw [← access_set]; exact Finset.Subset.refl _)) $$ Ha
  iintro Ha
  iapply Hk
  rw [hA]
  iapply (Entails.of_eq (pointsTo_congr (fun i hi => stored v b h f i hi)))
  iexact Ha

theorem aPts_split (b h : Fin 2) (f : ACont F) :
    aPts c fullShare b h f ⊣⊢ (iprop(aPts c (shr 0) b h f ∗ aPts c (shr 1) b h f ∗ aPts c (shr 2) b h f ∗ aPts c shrK b h f) : sProp 𝕄) := by
  unfold aPts
  constructor
  · iintro H
    ihave H := (pointsTo_share (PosShare.mem_left_op_right fullShare)).1 $$ H
    icases H with ⟨Hl, Hr⟩
    ihave Hl := (pointsTo_share (PosShare.mem_left_op_right fullShare.left)).1 $$ Hl
    ihave Hr := (pointsTo_share (PosShare.mem_left_op_right fullShare.right)).1 $$ Hr
    icases Hl with ⟨H0, H1⟩
    icases Hr with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0 H1]
    · iapply (pointsTo_share (PosShare.mem_left_op_right fullShare.left)).2
      isplitl [H0]; · iexact H0
      iexact H1
    iapply (pointsTo_share (PosShare.mem_left_op_right fullShare.right)).2
    isplitl [H2]; · iexact H2
    iexact H3

theorem aSet_disj (b : Fin 2) : Disjoint (aSet b 0) (aSet b 1) := by
  rw [Finset.disjoint_left]
  intro i h0 h1
  have e0 := (Finset.mem_filter.mp h0).2.2
  have e1 := (Finset.mem_filter.mp h1).2.2
  rw [e0] at e1
  exact absurd e1 (by decide)

theorem rSet_disj (s : Fin 3) (b : Fin 2) : Disjoint (rSet (s, b, 0)) (rSet (s, b, 1)) := by
  rw [Finset.disjoint_left]
  intro i h0 h1
  have e0 : (i 3).val / 128 = 0 := (Finset.mem_filter.mp h0).2.2.2
  have e1 : (i 3).val / 128 = 1 := (Finset.mem_filter.mp h1).2.2.2
  omega

theorem wp_ldA {off : Fin 3 → ℕ} {inb} {hl} {Q : α → sProp 𝕄} {k : (S1x256x256.Idx → Elt F .bf16) → Prog (TpuEff nD τ sig (Elt F) Λ₀ .tc) α}
    (b : Fin 2) (ho : off = ![b.val, 0, 0]) (f : ACont F) :
    iprop(aPts c shrK b 0 f ∗ aPts c shrK b 1 f) ⊢ iprop((iprop(aPts c shrK b 0 f ∗ aPts c shrK b 1 f) -∗ wp frame (wpE (defs₀ (F := F)) 𝒱₀ (c : Thread nD τ) none) Set.univ (k (ldA f b)) Q)
      -∗ wp frame (wpE (defs₀ (F := F)) 𝒱₀ (c : Thread nD τ) none) Set.univ (.op (.load aM (Rect.unit (s := S2x256x256) off S1x256x256.size inb).toLoadRect hl) k) Q) := by
  subst ho
  unfold aPts
  iintro H Hk
  ihave H := (pointsTo_union (aSet_disj b)).2 $$ H
  iapply (wp_load_rect 𝒱₀ (c : Thread nD τ) none Set.univ (m := aM) (r := Rect.unit (s := S2x256x256) ![b.val, 0, 0] S1x256x256.size inb) (S := (aSet b 0 ∪ aSet b 1 : Finset S2x256x256.Idx)) (f := f) (by
    show ((View.whole cc0_scratch0).slice (Rect.unit (s := S2x256x256) ![b.val, 0, 0] S1x256x256.size inb)).set ⊆ _
    rw [View.set_slice_whole]
    intro i hi
    have H := Rect.mem_set_unit.mp hi
    have h0 : b.val ≤ (i 0).val ∧ (i 0).val < b.val + 1 := H 0
    have h2 : (i 2).val < 256 := (i 2).isLt
    rw [Finset.mem_union, aSet, aSet, Finset.mem_filter, Finset.mem_filter]
    by_cases hc : (i 2).val < 128
    · exact Or.inl ⟨Finset.mem_univ _, by omega, by show (i 2).val / 128 = 0; omega⟩
    · exact Or.inr ⟨Finset.mem_univ _, by omega, by show (i 2).val / 128 = 1; omega⟩)) $$ H
  iintro H
  iapply Hk
  iapply (pointsTo_union (aSet_disj b)).1
  iexact H

theorem wp_ldR {off : Fin 4 → ℕ} {inb} {hl} {Q : α → sProp 𝕄} {k : (S1x1x256x256.Idx → Elt F .bf16) → Prog (TpuEff nD τ sig (Elt F) Λ₀ .tc) α}
    (s : Fin 3) (b : Fin 2) (ho : off = ![s.val, b.val, 0, 0]) (f : RCont F) :
    iprop(rPts c (s, b, 0) f ∗ rPts c (s, b, 1) f) ⊢ iprop((iprop(rPts c (s, b, 0) f ∗ rPts c (s, b, 1) f) -∗ wp frame (wpE (defs₀ (F := F)) 𝒱₀ (c : Thread nD τ) none) Set.univ (k (ldR f s b)) Q)
      -∗ wp frame (wpE (defs₀ (F := F)) 𝒱₀ (c : Thread nD τ) none) Set.univ (.op (.load rM (Rect.unit (s := S3x2x256x256) off S1x1x256x256.size inb).toLoadRect hl) k) Q) := by
  subst ho
  unfold rPts
  iintro H Hk
  ihave H := (pointsTo_union (rSet_disj s b)).2 $$ H
  iapply (wp_load_rect 𝒱₀ (c : Thread nD τ) none Set.univ (m := rM) (r := Rect.unit (s := S3x2x256x256) ![s.val, b.val, 0, 0] S1x1x256x256.size inb) (S := (rSet (s, b, 0) ∪ rSet (s, b, 1) : Finset S3x2x256x256.Idx)) (f := f) (by
    show ((View.whole cc0_scratch1).slice (Rect.unit (s := S3x2x256x256) ![s.val, b.val, 0, 0] S1x1x256x256.size inb)).set ⊆ _
    rw [View.set_slice_whole]
    intro i hi
    have H := Rect.mem_set_unit.mp hi
    have h0 : s.val ≤ (i 0).val ∧ (i 0).val < s.val + 1 := H 0
    have h1 : b.val ≤ (i 1).val ∧ (i 1).val < b.val + 1 := H 1
    have h2 : (i 3).val < 256 := (i 3).isLt
    rw [Finset.mem_union, rSet, rSet, Finset.mem_filter, Finset.mem_filter]
    by_cases hc : (i 3).val < 128
    · exact Or.inl ⟨Finset.mem_univ _, by show (i 0).val = s.val; omega, by show (i 1).val = b.val; omega, by show (i 3).val / 128 = 0; omega⟩
    · exact Or.inr ⟨Finset.mem_univ _, by show (i 0).val = s.val; omega, by show (i 1).val = b.val; omega, by show (i 3).val / 128 = 1; omega⟩)) $$ H
  iintro H
  iapply Hk
  iapply (pointsTo_union (rSet_disj s b)).1
  iexact H

end Own

/-! ## The output window -/

section Output

variable {c : Dev nD} {α : Type}

/-- The output window, its first n batches at v. -/
def oUpto (c : Dev nD) (v : S2x256x512.Idx → Elt F .bf16) (n : ℕ) : sProp 𝕄 :=
  iprop(∃ f : S2x256x512.Idx → Elt F .bf16, ⌜∀ i : S2x256x512.Idx, (i 0).val < n → f i = v i⌝ ∗ (((c : Thread nD τ).loc cc0_stg4_0) ↦{fullShare} f))

theorem wp_deadO {r : LoadRect S2x256x512} {hl} {Q : α → sProp 𝕄} {k : (r.shape.Idx → Elt F .bf16) → Prog (TpuEff nD τ sig (Elt F) Λ₀ .tc) α}
    (v : S2x256x512.Idx → Elt F .bf16) (n : ℕ) :
    oUpto c v n ⊢ iprop((∀ x, oUpto c v n -∗ wp frame (wpE (defs₀ (F := F)) 𝒱₀ (c : Thread nD τ) none) Set.univ (k x) Q)
      -∗ wp frame (wpE (defs₀ (F := F)) 𝒱₀ (c : Thread nD τ) none) Set.univ (.op (.load (Memref.whole cc0_stg4_0 : Memref sig .tc .vmem S2x256x512 .bf16) r hl) k) Q) := by
  unfold oUpto
  iintro ⟨%f, %hf, H⟩ Hk
  iapply (wp_load 𝒱₀ (c : Thread nD τ) none Set.univ (m := (Memref.whole cc0_stg4_0 : Memref sig .tc .vmem S2x256x512 .bf16)) (S := Finset.univ) (Finset.subset_univ _)) $$ H
  iintro H
  iapply Hk
  iexists f
  isplitr; · ipureintro; exact hf
  iexact H

theorem inbO : ∀ (b : Fin 2) (a : Fin 3), (![b.val, 0, 0] : Fin 3 → ℕ) a + S1x256x512.size a ≤ S2x256x512.size a := by decide
abbrev oM : Memref sig .tc .vmem S2x256x512 .bf16 := Memref.whole cc0_stg4_0
abbrev oRect (b : Fin 2) : Rect S2x256x512 := Rect.unit (s := S2x256x512) ![b.val, 0, 0] S1x256x512.size (inbO b)

theorem oStored (w : S1x256x512.Idx → Elt F .bf16) (v f : S2x256x512.Idx → Elt F .bf16) (b : Fin 2)
    (hv : ∀ (q : Fin 256) (n : Fin 512), v (ix3 b q n) = w (ix3 (0 : Fin 1) q n)) (hf : ∀ i : S2x256x512.Idx, (i 0).val < b.val → f i = v i)
    (i : S2x256x512.Idx) (hi : (i 0).val < b.val + 1) : (oM.access (oRect b)).write (Elt F) f w Finset.univ i = v i := by
  rcases Classical.em (i ∈ ((oM.access (oRect b)).set : Finset S2x256x512.Idx)) with hm | hm
  · obtain ⟨j, -, rfl⟩ := (Finset.mem_map (f := (oM.access (oRect b)).emb)).mp hm
    refine (View.write_emb_of_mem (v := oM.access (oRect b)) f w (M := Finset.univ) (Finset.mem_univ j)).trans ?_
    show w j = _
    have j0 : (j 0).val < 1 := (j 0).isLt
    have ej : j = ix3 (0 : Fin 1) (j 1) (j 2) := by
      funext a
      match a with
      | ⟨0, _⟩ => exact Fin.ext (by show (j 0).val = 0; omega)
      | ⟨1, _⟩ => rfl
      | ⟨2, _⟩ => rfl
    have ei : (oM.access (oRect b)).emb j = (ix3 b (j 1) (j 2) : S2x256x512.Idx) := by
      funext a
      match a with
      | ⟨0, _⟩ => exact Fin.ext (by show b.val + 1 * (j 0).val = b.val; omega)
      | ⟨1, _⟩ => exact Fin.ext (by show 0 + 1 * (j 1).val = (j 1).val; omega)
      | ⟨2, _⟩ => exact Fin.ext (by show 0 + 1 * (j 2).val = (j 2).val; omega)
    exact (congrArg w ej).trans ((hv (j 1) (j 2)).symm.trans (congrArg v ei.symm))
  · refine (View.write_of_not_mem (v := oM.access (oRect b)) f w Finset.univ (i := i) hm).trans (hf i ?_)
    by_contra hlt
    apply hm
    refine (Finset.mem_map (f := (oM.access (oRect b)).emb)).mpr ⟨ix3 (0 : Fin 1) (i 1) (i 2), Finset.mem_univ _, ?_⟩
    funext a
    match a with
    | ⟨0, _⟩ => exact Fin.ext (by show b.val + 1 * 0 = (i 0).val; omega)
    | ⟨1, _⟩ => exact Fin.ext (by show 0 + 1 * (i 1).val = (i 1).val; omega)
    | ⟨2, _⟩ => exact Fin.ext (by show 0 + 1 * (i 2).val = (i 2).val; omega)

theorem wp_stO {off : Fin 3 → ℕ} {inb} {w : S1x256x512.Idx → Elt F .bf16} {hx} {hm} {Q : α → sProp 𝕄} {k : PUnit → Prog (TpuEff nD τ sig (Elt F) Λ₀ .tc) α}
    (b : Fin 2) (m n : ℕ) (hbm : b.val = m) (hbn : b.val + 1 = n) (ho : off = ![b.val, 0, 0]) (v : S2x256x512.Idx → Elt F .bf16) (hv : ∀ (q : Fin 256) (n : Fin 512), v (ix3 b q n) = w (ix3 (0 : Fin 1) q n)) :
    oUpto c v m ⊢ iprop((oUpto c v n -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S2x256x512) off S1x256x512.size inb) w Finset.univ hx hm) k) Q) := by
  subst ho hbm hbn
  unfold oUpto
  iintro ⟨%f, %hf, H⟩ Hk
  iapply (wp_store 𝒱₀ (c : Thread nD τ) none Set.univ (m := oM) (r := oRect b) (w := w) (Mk := Finset.univ) (S := Finset.univ) (f := f) (Finset.subset_univ _)) $$ H
  iintro H
  iapply Hk
  iexists _
  isplitr; rotate_left; · iexact H
  ipureintro
  exact fun i hi => oStored w v f b hv hf i hi

end Output

end Cert.Heads
-- ==== Proof.Body.lean ====
/-
# The kernel body, one printed part at a time
-/
module

public import proofs.«01_k».proof.Proof.Access

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

/-- A body part, at the buffers the kernel gets. -/
abbrev atBufs {β : Type 1} (f : ∀ (a0 : Memref sig .tc .vmem S1024x512 .f32) (h0 : a0.IsWhole) (a1 : Memref sig .tc .vmem S2x256x256 .f32) (h1 : a1.IsWhole)
    (a2 : Memref sig .tc .vmem S2x4x64x256 .f32) (h2 : a2.IsWhole) (a3 : Memref sig .tc .vmem S2x4x64x256 .f32) (h3 : a3.IsWhole)
    (a4 : Memref sig .tc .vmem S2x256x512 .bf16) (h4 : a4.IsWhole) (a5 : Memref sig .tc .vmem S2x256x256 .bf16) (h5 : a5.IsWhole)
    (a6 : Memref sig .tc .vmem S3x2x256x256 .bf16) (h6 : a6.IsWhole) (a7 a8 : DmaSems sig S3x2x2), β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) aM (Memref.isWhole_whole _) rM (Memref.isWhole_whole _)
    cc0_scratch2 cc0_scratch3

/-- Running a program on device c. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Parts

variable {A : Dev nD → ACont F} {K : GSem nD τ sig → ℕ} {c : Dev nD}
  {gW : S1024x512.Idx → Elt F .f32} {gQ : S2x256x256.Idx → Elt F .f32} {gK gV : S2x4x64x256.Idx → Elt F .f32}

/-- All it takes to send piece x, its source apart. -/
def toSend (A : Dev nD → ACont F) (K : GSem nD τ sig → ℕ) (c : Dev nD) (x : Piece) : sProp 𝕄 := iprop(sndRes A K c x ∗ slotRes c x)
/-- Piece x has arrived. -/
def rcvd (A : Dev nD → ACont F) (c : Dev nD) (x : Piece) : sProp 𝕄 := iprop(semVal (rcvCell c x) 0 ∗ rPts c x (landed A c))
/-- Piece x has been sent, and its source is back. -/
def sent' (A : Dev nD → ACont F) (c : Dev nD) (x : Piece) : sProp 𝕄 := iprop(semVal (sndCell c x) 0 ∗ aPts c (shr x.1) x.2.1 x.2.2 (A c))

theorem tgt0 : ∀ c : Dev nD, ((⟨k0_dev4 c, k0_dev4_lt c⟩ : Dev nD) = tgt 0 c ∧ (⟨k0_dev7 c, k0_dev7_lt c⟩ : Dev nD) = tgt 0 c)
    ∧ ((⟨k0_dev10 c, k0_dev10_lt c⟩ : Dev nD) = tgt 0 c ∧ (⟨k0_dev13 c, k0_dev13_lt c⟩ : Dev nD) = tgt 0 c) := by decide +kernel
theorem tgt1 : ∀ c : Dev nD, ((⟨k0_dev5 c, k0_dev5_lt c⟩ : Dev nD) = tgt 1 c ∧ (⟨k0_dev8 c, k0_dev8_lt c⟩ : Dev nD) = tgt 1 c)
    ∧ ((⟨k0_dev11 c, k0_dev11_lt c⟩ : Dev nD) = tgt 1 c ∧ (⟨k0_dev14 c, k0_dev14_lt c⟩ : Dev nD) = tgt 1 c) := by decide +kernel
theorem tgt2 : ∀ c : Dev nD, ((⟨k0_dev6 c, k0_dev6_lt c⟩ : Dev nD) = tgt 2 c ∧ (⟨k0_dev9 c, k0_dev9_lt c⟩ : Dev nD) = tgt 2 c)
    ∧ ((⟨k0_dev12 c, k0_dev12_lt c⟩ : Dev nD) = tgt 2 c ∧ (⟨k0_dev15 c, k0_dev15_lt c⟩ : Dev nD) = tgt 2 c) := by decide +kernel
theorem orgs : ∀ c : Dev nD, (⟨k0_dev1 c, k0_dev1_lt c⟩ : Dev nD) = org 0 c ∧ (⟨k0_dev2 c, k0_dev2_lt c⟩ : Dev nD) = org 1 c
    ∧ (⟨k0_dev3 c, k0_dev3_lt c⟩ : Dev nD) = org 2 c := by decide +kernel

theorem part1 {Kt} : iprop(∀ v2 v13 v24 v35, Kt ⟨c, v2, v13, v24, v35⟩) ⊢ run (F := F) c (atBufs (k0_part1 (F := F))) Kt := by
  rw [k0_part1_eq_skeleton]; unfold k0_part1_skel run atBufs
  simp only [Prog.lift, Prog.bind_op, Prog.bind_ret, Prog.pure_eq_ret, Prog.bind_assoc]
  iintro Hk
  rw [wp_deviceId, wp_ret]
  imodintro
  iapply Hk

theorem part2 {v13 v24 v35 Kt} :
    iprop(sigRes A K c 0 ∗ sigRes A K c 1 ∗ sigRes A K c 2 ∗ slotGive (F := F) c 0 ∗ slotGive (F := F) c 1 ∗ slotGive (F := F) c 2 ∗ barRes A K c ∗ levAts L lv ∗ owesE (F := F) c (O₀ c))
      ⊢ iprop((iprop(owesE c (owedL (owedP c pieces)) ∗ semVal (barCell c) 0 ∗ barPay (F := F) c 0 ∗ barPay (F := F) c 1 ∗ barPay (F := F) c 2)
          -∗ Kt ⟨k0_pay1, iota .tc S256x256 32 [1] iota_S256x256_d1_w32, 64#32, k0_pay2, k0_pay3⟩)
        -∗ run c (atBufs (k0_part2 (F := F)) c v13 v24 v35) Kt) := by
  rw [k0_part2_eq_skeleton]; unfold k0_part2_skel semSignalWord semWaitWord
  simp only [Prog.lift, Prog.bind_op, Prog.bind_ret, Prog.pure_eq_ret, Prog.bind_assoc]
  iintro ⟨S0, S1, S2, G0, G1, G2, HB, Hlev, HO⟩ Hk
  iapply (wp_sig 0 (congrArg (fun d : Dev nD => (d : Thread nD τ)) (orgs c).1) rfl rfl) $$ [S0 G0 HO]; · unfold O₀; iframe
  iintro HO
  iapply (wp_sig 1 (congrArg (fun d : Dev nD => (d : Thread nD τ)) (orgs c).2.1) rfl rfl) $$ [S1 G1 HO]; · iframe
  iintro HO
  iapply (wp_sig 2 (congrArg (fun d : Dev nD => (d : Thread nD τ)) (orgs c).2.2) rfl rfl) $$ [S2 G2 HO]; · iframe
  iintro HO
  iapply (wp_bar (l := pieces) rfl rfl) $$ [HB Hlev HO]; · iframe
  iintro H
  rw [wp_ret]; imodintro
  iapply Hk; iexact H

theorem mask_eq : k0_pay4 k0_pay1 (iota .tc S256x256 32 [1] iota_S256x256_d1_w32) 64#32 k0_pay2 k0_pay3 = mask := rfl
theorem head_eq (q : Vec F S1x256x64 .f32) (k v : Vec F S1x1x64x256 .f32) :
    k0_pay5 k0_pay1 (iota .tc S256x256 32 [1] iota_S256x256_d1_w32) 64#32 k0_pay2 k0_pay3 q k v = headV q k v := rfl

theorem part3 {Kt} : (wins c gW gQ gK gV : sProp 𝕄)
    ⊢ iprop((wins c gW gQ gK gV -∗ Kt ⟨mask, headV (ldQ gQ 0 0) (ldK gK 0 0) (ldV gV 0 0)⟩)
      -∗ run c (atBufs (k0_part3 (F := F)) k0_pay1 (iota .tc S256x256 32 [1] iota_S256x256_d1_w32) 64#32 k0_pay2 k0_pay3) Kt) := by
  rw [k0_part3_eq_skeleton]; unfold k0_part3_skel
  simp only [Prog.lift, Prog.bind_op, Prog.bind_ret, Prog.pure_eq_ret, Prog.bind_assoc]
  iintro Hw Hk
  iapply (wp_ldQ 0 0 rfl) $$ Hw; iintro Hw
  iapply (wp_ldK 0 0 rfl) $$ Hw; iintro Hw
  iapply (wp_ldV 0 0 rfl) $$ Hw; iintro Hw
  rw [wp_ret, mask_eq, head_eq]; imodintro
  iapply Hk; iexact Hw

theorem part4 {v24 Kt} (hA : A c = attnV gQ gK gV) : iprop(wins c gW gQ gK gV ∗ aAny (F := F) c 0 0)
    ⊢ iprop((iprop(wins c gW gQ gK gV ∗ aPts c fullShare 0 0 (A c)) -∗ Kt ⟨⟩)
      -∗ run c (atBufs (k0_part4 (F := F)) v24 mask (headV (ldQ gQ 0 0) (ldK gK 0 0) (ldV gV 0 0))) Kt) := by
  rw [k0_part4_eq_skeleton]; unfold k0_part4_skel
  simp only [Prog.lift, Prog.bind_op, Prog.bind_ret, Prog.pure_eq_ret, Prog.bind_assoc]
  iintro ⟨Hw, Ha⟩ Hk
  iapply (wp_ldQ 0 1 rfl) $$ Hw; iintro Hw
  iapply (wp_ldK 0 1 rfl) $$ Hw; iintro Hw
  iapply (wp_ldV 0 1 rfl) $$ Hw; iintro Hw
  iapply (wp_deadA 0 0 rfl) $$ Ha; iintro %x Ha
  iapply (wp_stA 0 0 rfl hA rfl) $$ Ha; iintro Ha
  rw [wp_ret]; imodintro
  iapply Hk; iframe

theorem part5 {v13 v35 Kt} {l : List Piece} :
    iprop(wins c gW gQ gK gV ∗ aPts c fullShare 0 0 (A c) ∗ toSend A K c (0, 0, 0) ∗ toSend A K c (1, 0, 0) ∗ toSend A K c (2, 0, 0)
        ∗ owesE (F := F) c (owedL (owedP c ((0, 0, 0) :: (1, 0, 0) :: (2, 0, 0) :: l))))
      ⊢ iprop((iprop(wins c gW gQ gK gV ∗ aPts c shrK 0 0 (A c) ∗ pend A K c (0, 0, 0) ∗ pend A K c (1, 0, 0) ∗ pend A K c (2, 0, 0) ∗ owesE c (owedL (owedP c l)))
          -∗ Kt (k0_pay7 (ldQ gQ 0 2)))
        -∗ run c (atBufs (k0_part5 (F := F)) c v13 v35) Kt) := by
  rw [k0_part5_eq_skeleton]; unfold k0_part5_skel
  simp only [Prog.lift, Prog.bind_op, Prog.bind_ret, Prog.pure_eq_ret, Prog.bind_assoc]
  conv_lhs => unfold toSend
  iintro ⟨Hw, Ha, ⟨S0, L0⟩, ⟨S1, L1⟩, ⟨S2, L2⟩, HO⟩ Hk
  ihave Ha := (aPts_split 0 0 (A c)).1 $$ Ha
  icases Ha with ⟨A0, A1, A2, AK⟩
  iapply (wp_snd (0, 0, 0) rfl rfl (tgt0 c).1.1 rfl rfl) $$ [S0 L0 A0 HO]; · iframe
  iintro ⟨P0, HO⟩
  iapply (wp_snd (1, 0, 0) rfl rfl (tgt1 c).1.1 rfl rfl) $$ [S1 L1 A1 HO]; · iframe
  iintro ⟨P1, HO⟩
  iapply (wp_snd (2, 0, 0) rfl rfl (tgt2 c).1.1 rfl rfl) $$ [S2 L2 A2 HO]; · iframe
  iintro ⟨P2, HO⟩
  iapply (wp_ldQ 0 2 rfl) $$ Hw; iintro Hw
  rw [wp_ret]; imodintro
  iapply Hk; iframe

theorem part6 {Kt} : iprop(wins c gW gQ gK gV ∗ aAny (F := F) c 0 1)
    ⊢ iprop((∀ v, iprop(wins c gW gQ gK gV ∗ aAny (F := F) c 0 1)
        -∗ Kt ⟨k0_pay8 mask (k0_pay7 (ldQ gQ 0 2)) (ldK gK 0 2) (ldV gV 0 2) (ldQ gQ 0 3) (ldK gK 0 3) (ldV gV 0 3), v⟩)
      -∗ run c (atBufs (k0_part6 (F := F)) mask (k0_pay7 (ldQ gQ 0 2))) Kt) := by
  rw [k0_part6_eq_skeleton]; unfold k0_part6_skel
  simp only [Prog.lift, Prog.bind_op, Prog.bind_ret, Prog.pure_eq_ret, Prog.bind_assoc]
  iintro ⟨Hw, Ha⟩ Hk
  iapply (wp_ldK 0 2 rfl) $$ Hw; iintro Hw
  iapply (wp_ldV 0 2 rfl) $$ Hw; iintro Hw
  iapply (wp_ldQ 0 3 rfl) $$ Hw; iintro Hw
  iapply (wp_ldK 0 3 rfl) $$ Hw; iintro Hw
  iapply (wp_ldV 0 3 rfl) $$ Hw; iintro Hw
  iapply (wp_deadA 0 1 rfl) $$ Ha; iintro %x Ha
  rw [wp_ret]; imodintro
  iapply Hk; iframe

theorem part7 {v13 v24 v191 Kt} {l : List Piece} (hA : A c = attnV gQ gK gV) :
    iprop(aAny (F := F) c 0 1 ∗ toSend A K c (0, 0, 1) ∗ toSend A K c (1, 0, 1) ∗ owesE (F := F) c (owedL (owedP c ((0, 0, 1) :: (1, 0, 1) :: l))))
      ⊢ iprop((iprop(aPts c (shr 2) 0 1 (A c) ∗ aPts c shrK 0 1 (A c) ∗ pend A K c (0, 0, 1) ∗ pend A K c (1, 0, 1) ∗ owesE c (owedL (owedP c l))) -∗ Kt ⟨⟩)
        -∗ run c (atBufs (k0_part7 (F := F)) c v13 v24
            (k0_pay8 mask (k0_pay7 (ldQ gQ 0 2)) (ldK gK 0 2) (ldV gV 0 2) (ldQ gQ 0 3) (ldK gK 0 3) (ldV gV 0 3)) v191) Kt) := by
  rw [k0_part7_eq_skeleton]; unfold k0_part7_skel
  simp only [Prog.lift, Prog.bind_op, Prog.bind_ret, Prog.pure_eq_ret, Prog.bind_assoc]
  conv_lhs => unfold toSend
  iintro ⟨Ha, ⟨S0, L0⟩, ⟨S1, L1⟩, HO⟩ Hk
  iapply (wp_stA 0 1 rfl hA rfl) $$ Ha; iintro Ha
  ihave Ha := (aPts_split 0 1 (A c)).1 $$ Ha
  icases Ha with ⟨A0, A1, A2, AK⟩
  iapply (wp_snd (0, 0, 1) rfl rfl (tgt0 c).1.2 rfl rfl) $$ [S0 L0 A0 HO]; · iframe
  iintro ⟨P0, HO⟩
  iapply (wp_snd (1, 0, 1) rfl rfl (tgt1 c).1.2 rfl rfl) $$ [S1 L1 A1 HO]; · iframe
  iintro ⟨P1, HO⟩
  rw [wp_ret]; imodintro
  iapply Hk; iframe

theorem part8 {v35 Kt} {l : List Piece} :
    iprop(wins c gW gQ gK gV ∗ aPts c (shr 2) 0 1 (A c) ∗ toSend A K c (2, 0, 1) ∗ owesE (F := F) c (owedL (owedP c ((2, 0, 1) :: l))))
      ⊢ iprop((iprop(wins c gW gQ gK gV ∗ pend A K c (2, 0, 1) ∗ owesE c (owedL (owedP c l)))
          -∗ Kt ⟨k0_pay10 mask (ldQ gQ 1 0) (ldK gK 1 0) (ldV gV 1 0), k0_pay11 (ldQ gQ 1 1)⟩)
        -∗ run c (atBufs (k0_part8 (F := F)) c v35 mask) Kt) := by
  rw [k0_part8_eq_skeleton]; unfold k0_part8_skel
  simp only [Prog.lift, Prog.bind_op, Prog.bind_ret, Prog.pure_eq_ret, Prog.bind_assoc]
  conv_lhs => unfold toSend
  iintro ⟨Hw, A2, ⟨S2, L2⟩, HO⟩ Hk
  iapply (wp_snd (2, 0, 1) rfl rfl (tgt2 c).1.2 rfl rfl) $$ [S2 L2 A2 HO]; · iframe
  iintro ⟨P2, HO⟩
  iapply (wp_ldQ 1 0 rfl) $$ Hw; iintro Hw
  iapply (wp_ldK 1 0 rfl) $$ Hw; iintro Hw
  iapply (wp_ldV 1 0 rfl) $$ Hw; iintro Hw
  iapply (wp_ldQ 1 1 rfl) $$ Hw; iintro Hw
  rw [wp_ret]; imodintro
  iapply Hk; iframe

theorem part9 {v24 Kt} {l : List Piece} (hA : A c = attnV gQ gK gV) :
    iprop(wins c gW gQ gK gV ∗ aAny (F := F) c 1 0 ∗ toSend A K c (0, 1, 0) ∗ owesE (F := F) c (owedL (owedP c ((0, 1, 0) :: l))))
      ⊢ iprop((iprop(wins c gW gQ gK gV ∗ aPts c (shr 1) 1 0 (A c) ∗ aPts c (shr 2) 1 0 (A c) ∗ aPts c shrK 1 0 (A c) ∗ pend A K c (0, 1, 0) ∗ owesE c (owedL (owedP c l)))
          -∗ Kt ⟨⟩)
        -∗ run c (atBufs (k0_part9 (F := F)) c v24 mask (k0_pay10 mask (ldQ gQ 1 0) (ldK gK 1 0) (ldV gV 1 0)) (k0_pay11 (ldQ gQ 1 1))) Kt) := by
  rw [k0_part9_eq_skeleton]; unfold k0_part9_skel
  simp only [Prog.lift, Prog.bind_op, Prog.bind_ret, Prog.pure_eq_ret, Prog.bind_assoc]
  conv_lhs => unfold toSend
  iintro ⟨Hw, Ha, ⟨S0, L0⟩, HO⟩ Hk
  iapply (wp_ldK 1 1 rfl) $$ Hw; iintro Hw
  iapply (wp_ldV 1 1 rfl) $$ Hw; iintro Hw
  iapply (wp_deadA 1 0 rfl) $$ Ha; iintro %x Ha
  iapply (wp_stA 1 0 rfl hA rfl) $$ Ha; iintro Ha
  ihave Ha := (aPts_split 1 0 (A c)).1 $$ Ha
  icases Ha with ⟨A0, A1, A2, AK⟩
  iapply (wp_snd (0, 1, 0) rfl rfl (tgt0 c).2.1 rfl rfl) $$ [S0 L0 A0 HO]; · iframe
  iintro ⟨P0, HO⟩
  rw [wp_ret]; imodintro
  iapply Hk; iframe

theorem part10 {v13 v35 Kt} {l : List Piece} :
    iprop(wins c gW gQ gK gV ∗ aPts c (shr 1) 1 0 (A c) ∗ aPts c (shr 2) 1 0 (A c) ∗ toSend A K c (1, 1, 0) ∗ toSend A K c (2, 1, 0)
        ∗ owesE (F := F) c (owedL (owedP c ((1, 1, 0) :: (2, 1, 0) :: l))))
      ⊢ iprop((iprop(wins c gW gQ gK gV ∗ pend A K c (1, 1, 0) ∗ pend A K c (2, 1, 0) ∗ owesE c (owedL (owedP c l)))
          -∗ Kt ⟨k0_pay13 (ldQ gQ 1 2), k0_pay14 (ldK gK 1 2), constant S256x256 .f32 0x00000000#32⟩)
        -∗ run c (atBufs (k0_part10 (F := F)) c v13 v35) Kt) := by
  rw [k0_part10_eq_skeleton]; unfold k0_part10_skel
  simp only [Prog.lift, Prog.bind_op, Prog.bind_ret, Prog.pure_eq_ret, Prog.bind_assoc]
  conv_lhs => unfold toSend
  iintro ⟨Hw, A1, A2, ⟨S1, L1⟩, ⟨S2, L2⟩, HO⟩ Hk
  iapply (wp_snd (1, 1, 0) rfl rfl (tgt1 c).2.1 rfl rfl) $$ [S1 L1 A1 HO]; · iframe
  iintro ⟨P1, HO⟩
  iapply (wp_snd (2, 1, 0) rfl rfl (tgt2 c).2.1 rfl rfl) $$ [S2 L2 A2 HO]; · iframe
  iintro ⟨P2, HO⟩
  iapply (wp_ldQ 1 2 rfl) $$ Hw; iintro Hw
  iapply (wp_ldK 1 2 rfl) $$ Hw; iintro Hw
  rw [wp_ret]; imodintro
  iapply Hk; iframe

theorem part11 {Kt} (hA : A c = attnV gQ gK gV) : iprop(wins c gW gQ gK gV ∗ aAny (F := F) c 1 1)
    ⊢ iprop((iprop(wins c gW gQ gK gV ∗ aPts c fullShare 1 1 (A c)) -∗ Kt ⟨⟩)
      -∗ run c (atBufs (k0_part11 (F := F)) mask (k0_pay13 (ldQ gQ 1 2)) (k0_pay14 (ldK gK 1 2)) (constant S256x256 .f32 0x00000000#32)) Kt) := by
  rw [k0_part11_eq_skeleton]; unfold k0_part11_skel
  simp only [Prog.lift, Prog.bind_op, Prog.bind_ret, Prog.pure_eq_ret, Prog.bind_assoc]
  iintro ⟨Hw, Ha⟩ Hk
  iapply (wp_ldV 1 2 rfl) $$ Hw; iintro Hw
  iapply (wp_ldQ 1 3 rfl) $$ Hw; iintro Hw
  iapply (wp_ldK 1 3 rfl) $$ Hw; iintro Hw
  iapply (wp_ldV 1 3 rfl) $$ Hw; iintro Hw
  iapply (wp_deadA 1 1 rfl) $$ Ha; iintro %x Ha
  iapply (wp_stA 1 1 rfl hA rfl) $$ Ha; iintro Ha
  rw [wp_ret]; imodintro
  iapply Hk; iframe

theorem part12 {v13 v24 v35 Kt} {l : List Piece} :
    iprop(aPts c fullShare 1 1 (A c) ∗ toSend A K c (0, 1, 1) ∗ toSend A K c (1, 1, 1) ∗ owesE (F := F) c (owedL (owedP c ((0, 1, 1) :: (1, 1, 1) :: l))))
      ⊢ iprop((∀ v, iprop(aPts c (shr 2) 1 1 (A c) ∗ aPts c shrK 1 1 (A c) ∗ pend A K c (0, 1, 1) ∗ pend A K c (1, 1, 1) ∗ owesE c (owedL (owedP c l))) -∗ Kt v)
        -∗ run c (atBufs (k0_part12 (F := F)) c v13 v24 v35) Kt) := by
  rw [k0_part12_eq_skeleton]; unfold k0_part12_skel
  simp only [Prog.lift, Prog.bind_op, Prog.bind_ret, Prog.pure_eq_ret, Prog.bind_assoc]
  conv_lhs => unfold toSend
  iintro ⟨Ha, ⟨S0, L0⟩, ⟨S1, L1⟩, HO⟩ Hk
  ihave Ha := (aPts_split 1 1 (A c)).1 $$ Ha
  icases Ha with ⟨A0, A1, A2, AK⟩
  iapply (wp_snd (0, 1, 1) rfl rfl (tgt0 c).2.2 rfl rfl) $$ [S0 L0 A0 HO]; · iframe
  iintro ⟨P0, HO⟩
  iapply (wp_snd (1, 1, 1) rfl rfl (tgt1 c).2.2 rfl rfl) $$ [S1 L1 A1 HO]; · iframe
  iintro ⟨P1, HO⟩
  rw [wp_ret]; imodintro
  iapply Hk; iframe

theorem part13 {v2 v13 v344 Kt} :
    iprop(wins c gW gQ gK gV ∗ aPts c (shr 2) 1 1 (A c) ∗ toSend A K c (2, 1, 1) ∗ iprop(aPts c shrK 0 0 (A c) ∗ aPts c shrK 0 1 (A c)) ∗ rcvRes A K c (0, 0, 0)
        ∗ owesE (F := F) c (owedL (owedP c [(2, 1, 1)])))
      ⊢ iprop((iprop(wins c gW gQ gK gV ∗ pend A K c (2, 1, 1) ∗ iprop(aPts c shrK 0 0 (A c) ∗ aPts c shrK 0 1 (A c)) ∗ rcvd A c (0, 0, 0) ∗ owesE c 0)
          -∗ Kt (k0_pay16 (ldA (A c) 0) (ldW gW (k0_off1 c) (k0_off1_inb c))))
        -∗ run c (atBufs (k0_part13 (F := F)) c v2 v13 v344) Kt) := by
  rw [k0_part13_eq_skeleton]; unfold k0_part13_skel
  simp only [Prog.lift, Prog.bind_op, Prog.bind_ret, Prog.pure_eq_ret, Prog.bind_assoc]
  conv_lhs => unfold toSend
  iintro ⟨Hw, A2, ⟨S2, L2⟩, Ha, R0, HO⟩ Hk
  iapply (wp_snd (2, 1, 1) rfl rfl (tgt2 c).2.2 rfl rfl) $$ [S2 L2 A2 HO]; · iframe
  iintro ⟨P2, HO⟩
  iapply (wp_ldA 0 rfl) $$ Ha; iintro Ha
  iapply wp_ldW $$ Hw; iintro Hw
  iapply (wp_wrcv (0, 0, 0) rfl rfl) $$ [R0 HO]; · isplitl [R0]; · iexact R0
                                                   iexact HO
  iintro ⟨HO, D0⟩
  rw [wp_ret]; imodintro
  iapply Hk; unfold rcvd; iframe

theorem part14 {v13 v24 v361 Kt} :
    iprop(wins c gW gQ gK gV ∗ rcvd A c (0, 0, 0) ∗ rcvRes A K c (0, 0, 1) ∗ rcvRes A K c (1, 0, 0) ∗ owesE (F := F) c 0)
      ⊢ iprop((iprop(wins c gW gQ gK gV ∗ rcvd A c (0, 0, 0) ∗ rcvd A c (0, 0, 1) ∗ rcvd A c (1, 0, 0) ∗ owesE c 0)
          -∗ Kt (k0_pay17 v361 (ldR (landed A c) 0 0) (ldW gW (k0_off2 c) (k0_off2_inb c))))
        -∗ run c (atBufs (k0_part14 (F := F)) c v13 v24 v361) Kt) := by
  rw [k0_part14_eq_skeleton]; unfold k0_part14_skel
  simp only [Prog.lift, Prog.bind_op, Prog.bind_ret, Prog.pure_eq_ret, Prog.bind_assoc]
  unfold rcvd
  iintro ⟨Hw, ⟨E0, D0⟩, R1, R2, HO⟩ Hk
  iapply (wp_wrcv (0, 0, 1) rfl rfl) $$ [R1 HO]; · iframe
  iintro ⟨HO, E1, D1⟩
  iapply (wp_ldR 0 0 rfl (landed A c)) $$ [D0 D1]; · iframe
  iintro ⟨D0, D1⟩
  iapply wp_ldW $$ Hw; iintro Hw
  iapply (wp_wrcv (1, 0, 0) rfl rfl) $$ [R2 HO]; · iframe
  iintro ⟨HO, E2, D2⟩
  rw [wp_ret]; imodintro
  iapply Hk; iframe

theorem part15 {v24 v35 v386 Kt} :
    iprop(wins c gW gQ gK gV ∗ rcvd A c (1, 0, 0) ∗ rcvRes A K c (1, 0, 1) ∗ owesE (F := F) c 0)
      ⊢ iprop((iprop(wins c gW gQ gK gV ∗ rcvd A c (1, 0, 0) ∗ rcvd A c (1, 0, 1) ∗ owesE c 0)
          -∗ Kt (k0_pay18 v386 (ldR (landed A c) 1 0) (ldW gW (k0_off3 c 1#32) (k0_off3_inb c 0))))
        -∗ run c (atBufs (k0_part15 (F := F)) c v24 v35 v386) Kt) := by
  rw [k0_part15_eq_skeleton]; unfold k0_part15_skel
  simp only [Prog.lift, Prog.bind_op, Prog.bind_ret, Prog.pure_eq_ret, Prog.bind_assoc]
  unfold rcvd
  iintro ⟨Hw, ⟨E0, D0⟩, R1, HO⟩ Hk
  iapply (wp_wrcv (1, 0, 1) rfl rfl) $$ [R1 HO]; · iframe
  iintro ⟨HO, E1, D1⟩
  iapply (wp_ldR 1 0 rfl (landed A c)) $$ [D0 D1]; · iframe
  iintro ⟨D0, D1⟩
  iapply wp_ldW $$ Hw; iintro Hw
  rw [wp_ret]; imodintro
  iapply Hk; iframe

/-- The accumulator before the last origin's rows are added. -/
def acc3 (gW : S1024x512.Idx → Elt F .f32) (c : Dev nD) (a : ACont F) (r : RCont F) (b : Fin 2) : FVec F S256x512 .f32 :=
  k0_pay18 (k0_pay17 (k0_pay16 (ldA a b) (ldW gW (k0_off1 c) (k0_off1_inb c))) (ldR r 0 b) (ldW gW (k0_off2 c) (k0_off2_inb c)))
    (ldR r 1 b) (ldW gW (k0_off3 c 1#32) (k0_off3_inb c 0))

theorem outC_at (a : ACont F) (r : RCont F) (b : Fin 2) (q : Fin 256) (n : Fin 512) :
    outC gW c a r (ix3 b q n) = k0_pay19 (acc3 gW c a r b) (ldR r 2 b) (ldW gW (k0_off3 c 2#32) (k0_off3_inb c 1)) (ix3 (0 : Fin 1) q n) := rfl

theorem outC_at1 (a : ACont F) (r : RCont F) (q : Fin 256) (n : Fin 512) :
    outC gW c a r (ix3 (1 : Fin 2) q n) = k0_pay26 (k0_pay25 (k0_pay24 (k0_pay22 (k0_pay20 (ldA a 1)) (k0_pay21 (ldW gW (k0_off1 c) (k0_off1_inb c)))) (k0_pay23 (ldR r 0 1)) (ldW gW (k0_off2 c) (k0_off2_inb c)))
        (ldR r 1 1) (ldW gW (k0_off3 c 1#32) (k0_off3_inb c 0))) (ldR r 2 1) (ldW gW (k0_off3 c 2#32) (k0_off3_inb c 1)) (ix3 (0 : Fin 1) q n) := rfl

theorem part16 {v2 v35 Kt} :
    iprop(wins c gW gQ gK gV ∗ rcvRes A K c (2, 0, 0) ∗ rcvRes A K c (2, 0, 1) ∗ oUpto c (outC gW c (A c) (landed A c)) 0
        ∗ iprop(aPts c shrK 1 0 (A c) ∗ aPts c shrK 1 1 (A c)) ∗ owesE (F := F) c 0)
      ⊢ iprop((iprop(wins c gW gQ gK gV ∗ rcvd A c (2, 0, 0) ∗ rcvd A c (2, 0, 1) ∗ oUpto c (outC gW c (A c) (landed A c)) 1
            ∗ iprop(aPts c shrK 1 0 (A c) ∗ aPts c shrK 1 1 (A c)) ∗ owesE c 0)
          -∗ Kt ⟨k0_pay20 (ldA (A c) 1), k0_pay21 (ldW gW (k0_off1 c) (k0_off1_inb c))⟩)
        -∗ run c (atBufs (k0_part16 (F := F)) c v2 v35 (acc3 gW c (A c) (landed A c) 0)) Kt) := by
  rw [k0_part16_eq_skeleton]; unfold k0_part16_skel
  simp only [Prog.lift, Prog.bind_op, Prog.bind_ret, Prog.pure_eq_ret, Prog.bind_assoc]
  unfold rcvd
  iintro ⟨Hw, R0, R1, Ho, Ha, HO⟩ Hk
  iapply (wp_wrcv (2, 0, 0) rfl rfl) $$ [R0 HO]; · iframe
  iintro ⟨HO, E0, D0⟩
  iapply (wp_wrcv (2, 0, 1) rfl rfl) $$ [R1 HO]; · iframe
  iintro ⟨HO, E1, D1⟩
  iapply (wp_ldR 2 0 rfl (landed A c)) $$ [D0 D1]; · iframe
  iintro ⟨D0, D1⟩
  iapply wp_ldW $$ Hw; iintro Hw
  iapply (wp_deadO (outC gW c (A c) (landed A c)) 0) $$ Ho; iintro %x Ho
  iapply (wp_stO 0 0 1 rfl rfl rfl (outC gW c (A c) (landed A c)) (outC_at (A c) (landed A c) 0)) $$ Ho; iintro Ho
  iapply (wp_ldA 1 rfl) $$ Ha; iintro Ha
  iapply wp_ldW $$ Hw; iintro Hw
  rw [wp_ret]; imodintro
  iapply Hk; iframe

theorem part17 {v13 v442 v446 Kt} :
    iprop(rcvRes A K c (0, 1, 0) ∗ rcvRes A K c (0, 1, 1) ∗ owesE (F := F) c 0)
      ⊢ iprop((iprop(rcvd A c (0, 1, 0) ∗ rcvd A c (0, 1, 1) ∗ owesE c 0) -∗ Kt ⟨k0_pay22 v442 v446, k0_pay23 (ldR (landed A c) 0 1)⟩)
        -∗ run c (atBufs (k0_part17 (F := F)) v13 v442 v446) Kt) := by
  rw [k0_part17_eq_skeleton]; unfold k0_part17_skel
  simp only [Prog.lift, Prog.bind_op, Prog.bind_ret, Prog.pure_eq_ret, Prog.bind_assoc]
  unfold rcvd
  iintro ⟨R0, R1, HO⟩ Hk
  iapply (wp_wrcv (0, 1, 0) rfl rfl) $$ [R0 HO]; · iframe
  iintro ⟨HO, E0, D0⟩
  iapply (wp_wrcv (0, 1, 1) rfl rfl) $$ [R1 HO]; · iframe
  iintro ⟨HO, E1, D1⟩
  iapply (wp_ldR 0 1 rfl (landed A c)) $$ [D0 D1]; · iframe
  iintro ⟨D0, D1⟩
  rw [wp_ret]; imodintro
  iapply Hk; iframe

theorem part18 {v24 v448 v466 Kt} :
    iprop(wins c gW gQ gK gV ∗ rcvRes A K c (1, 1, 0) ∗ rcvRes A K c (1, 1, 1) ∗ owesE (F := F) c 0)
      ⊢ iprop((iprop(wins c gW gQ gK gV ∗ rcvd A c (1, 1, 0) ∗ rcvd A c (1, 1, 1) ∗ owesE c 0)
          -∗ Kt ⟨k0_pay24 v448 v466 (ldW gW (k0_off2 c) (k0_off2_inb c)), ldR (landed A c) 1 1⟩)
        -∗ run c (atBufs (k0_part18 (F := F)) c v24 v448 v466) Kt) := by
  rw [k0_part18_eq_skeleton]; unfold k0_part18_skel
  simp only [Prog.lift, Prog.bind_op, Prog.bind_ret, Prog.pure_eq_ret, Prog.bind_assoc]
  unfold rcvd
  iintro ⟨Hw, R0, R1, HO⟩ Hk
  iapply wp_ldW $$ Hw; iintro Hw
  iapply (wp_wrcv (1, 1, 0) rfl rfl) $$ [R0 HO]; · iframe
  iintro ⟨HO, E0, D0⟩
  iapply (wp_wrcv (1, 1, 1) rfl rfl) $$ [R1 HO]; · iframe
  iintro ⟨HO, E1, D1⟩
  iapply (wp_ldR 1 1 rfl (landed A c)) $$ [D0 D1]; · iframe
  iintro ⟨D0, D1⟩
  rw [wp_ret]; imodintro
  iapply Hk; iframe

theorem part19 {v24 v35 v473 v490 Kt} :
    iprop(wins c gW gQ gK gV ∗ rcvRes A K c (2, 1, 0) ∗ rcvRes A K c (2, 1, 1) ∗ owesE (F := F) c 0)
      ⊢ iprop((iprop(wins c gW gQ gK gV ∗ rcvd A c (2, 1, 0) ∗ rcvd A c (2, 1, 1) ∗ owesE c 0)
          -∗ Kt (k0_pay25 v473 v490 (ldW gW (k0_off3 c 1#32) (k0_off3_inb c 0))))
        -∗ run c (atBufs (k0_part19 (F := F)) c v24 v35 v473 v490) Kt) := by
  rw [k0_part19_eq_skeleton]; unfold k0_part19_skel
  simp only [Prog.lift, Prog.bind_op, Prog.bind_ret, Prog.pure_eq_ret, Prog.bind_assoc]
  unfold rcvd
  iintro ⟨Hw, R0, R1, HO⟩ Hk
  iapply wp_ldW $$ Hw; iintro Hw
  iapply (wp_wrcv (2, 1, 0) rfl rfl) $$ [R0 HO]; · iframe
  iintro ⟨HO, E0, D0⟩
  iapply (wp_wrcv (2, 1, 1) rfl rfl) $$ [R1 HO]; · iframe
  iintro ⟨HO, E1, D1⟩
  rw [wp_ret]; imodintro
  iapply Hk; iframe

theorem part20 {v35 Kt} :
    iprop(wins c gW gQ gK gV ∗ rcvd A c (2, 1, 0) ∗ rcvd A c (2, 1, 1) ∗ oUpto c (outC gW c (A c) (landed A c)) 1 ∗ pend A K c (0, 0, 0) ∗ owesE (F := F) c 0)
      ⊢ iprop((iprop(wins c gW gQ gK gV ∗ rcvd A c (2, 1, 0) ∗ rcvd A c (2, 1, 1) ∗ oUpto c (outC gW c (A c) (landed A c)) 2 ∗ sent' A c (0, 0, 0) ∗ owesE c 0)
          -∗ Kt ⟨⟩)
        -∗ run c (atBufs (k0_part20 (F := F)) c v35
            (k0_pay25 (k0_pay24 (k0_pay22 (k0_pay20 (ldA (A c) 1)) (k0_pay21 (ldW gW (k0_off1 c) (k0_off1_inb c)))) (k0_pay23 (ldR (landed A c) 0 1)) (ldW gW (k0_off2 c) (k0_off2_inb c)))
              (ldR (landed A c) 1 1) (ldW gW (k0_off3 c 1#32) (k0_off3_inb c 0)))) Kt) := by
  rw [k0_part20_eq_skeleton]; unfold k0_part20_skel
  simp only [Prog.lift, Prog.bind_op, Prog.bind_ret, Prog.pure_eq_ret, Prog.bind_assoc]
  unfold rcvd sent'
  iintro ⟨Hw, ⟨E0, D0⟩, ⟨E1, D1⟩, Ho, P0, HO⟩ Hk
  iapply (wp_ldR 2 1 rfl (landed A c)) $$ [D0 D1]; · iframe
  iintro ⟨D0, D1⟩
  iapply wp_ldW $$ Hw; iintro Hw
  iapply (wp_deadO (outC gW c (A c) (landed A c)) 1) $$ Ho; iintro %x Ho
  iapply (wp_stO 1 1 2 rfl rfl rfl (outC gW c (A c) (landed A c)) (outC_at1 (A c) (landed A c))) $$ Ho; iintro Ho
  iapply (wp_wsnd (0, 0, 0) rfl rfl) $$ [P0 HO]; · iframe
  iintro ⟨HO, X0⟩
  rw [wp_ret]; imodintro
  iapply Hk; iframe

theorem part21 {Kt} :
    iprop(pend A K c (1, 0, 0) ∗ pend A K c (2, 0, 0) ∗ pend A K c (0, 0, 1) ∗ owesE (F := F) c 0)
      ⊢ iprop((iprop(sent' A c (1, 0, 0) ∗ sent' A c (2, 0, 0) ∗ sent' A c (0, 0, 1) ∗ owesE c 0) -∗ Kt ⟨⟩)
        -∗ run c (atBufs (k0_part21 (F := F))) Kt) := by
  rw [k0_part21_eq_skeleton]; unfold k0_part21_skel
  simp only [Prog.lift, Prog.bind_op, Prog.bind_ret, Prog.pure_eq_ret, Prog.bind_assoc]
  unfold sent'
  iintro ⟨P0, P1, P2, HO⟩ Hk
  iapply (wp_wsnd (1, 0, 0) rfl rfl) $$ [P0 HO]; · iframe
  iintro ⟨HO, X0⟩
  iapply (wp_wsnd (2, 0, 0) rfl rfl) $$ [P1 HO]; · iframe
  iintro ⟨HO, X1⟩
  iapply (wp_wsnd (0, 0, 1) rfl rfl) $$ [P2 HO]; · iframe
  iintro ⟨HO, X2⟩
  rw [wp_ret]; imodintro
  iapply Hk; iframe

theorem part22 {Kt} :
    iprop(pend A K c (1, 0, 1) ∗ pend A K c (2, 0, 1) ∗ pend A K c (0, 1, 0) ∗ owesE (F := F) c 0)
      ⊢ iprop((iprop(sent' A c (1, 0, 1) ∗ sent' A c (2, 0, 1) ∗ sent' A c (0, 1, 0) ∗ owesE c 0) -∗ Kt ⟨⟩)
        -∗ run c (atBufs (k0_part22 (F := F))) Kt) := by
  rw [k0_part22_eq_skeleton]; unfold k0_part22_skel
  simp only [Prog.lift, Prog.bind_op, Prog.bind_ret, Prog.pure_eq_ret, Prog.bind_assoc]
  unfold sent'
  iintro ⟨P0, P1, P2, HO⟩ Hk
  iapply (wp_wsnd (1, 0, 1) rfl rfl) $$ [P0 HO]; · iframe
  iintro ⟨HO, X0⟩
  iapply (wp_wsnd (2, 0, 1) rfl rfl) $$ [P1 HO]; · iframe
  iintro ⟨HO, X1⟩
  iapply (wp_wsnd (0, 1, 0) rfl rfl) $$ [P2 HO]; · iframe
  iintro ⟨HO, X2⟩
  rw [wp_ret]; imodintro
  iapply Hk; iframe

theorem part23 {Kt} :
    iprop(pend A K c (1, 1, 0) ∗ pend A K c (2, 1, 0) ∗ pend A K c (0, 1, 1) ∗ owesE (F := F) c 0)
      ⊢ iprop((iprop(sent' A c (1, 1, 0) ∗ sent' A c (2, 1, 0) ∗ sent' A c (0, 1, 1) ∗ owesE c 0) -∗ Kt ⟨⟩)
        -∗ run c (atBufs (k0_part23 (F := F))) Kt) := by
  rw [k0_part23_eq_skeleton]; unfold k0_part23_skel
  simp only [Prog.lift, Prog.bind_op, Prog.bind_ret, Prog.pure_eq_ret, Prog.bind_assoc]
  unfold sent'
  iintro ⟨P0, P1, P2, HO⟩ Hk
  iapply (wp_wsnd (1, 1, 0) rfl rfl) $$ [P0 HO]; · iframe
  iintro ⟨HO, X0⟩
  iapply (wp_wsnd (2, 1, 0) rfl rfl) $$ [P1 HO]; · iframe
  iintro ⟨HO, X1⟩
  iapply (wp_wsnd (0, 1, 1) rfl rfl) $$ [P2 HO]; · iframe
  iintro ⟨HO, X2⟩
  rw [wp_ret]; imodintro
  iapply Hk; iframe

end Parts

end Cert.Heads
-- ==== Proof.Run.lean ====
/-
# The whole body on one device
-/
module

public import proofs.«01_k».proof.Proof.Body

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

section Whole

variable {A : Dev nD → ACont F} {K : GSem nD τ sig → ℕ} {c : Dev nD}
  {gW : S1024x512.Idx → Elt F .f32} {gQ : S2x256x256.Idx → Elt F .f32} {gK gV : S2x4x64x256.Idx → Elt F .f32}

theorem all12 (Φ : Piece → sProp 𝕄) : bigSep Finset.univ Φ
    = iprop(Φ (0, 0, 0) ∗ Φ (1, 0, 0) ∗ Φ (2, 0, 0) ∗ Φ (0, 0, 1) ∗ Φ (1, 0, 1) ∗ Φ (2, 0, 1) ∗ Φ (0, 1, 0) ∗ Φ (1, 1, 0) ∗ Φ (2, 1, 0) ∗ Φ (0, 1, 1) ∗ Φ (1, 1, 1) ∗ Φ (2, 1, 1)) :=
  bigSep_univ_eq_bigSepL pieces (by decide) (by decide) Φ

theorem all4 (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

theorem all3 (Φ : Fin 3 → sProp 𝕄) : bigSep Finset.univ Φ = iprop(Φ 0 ∗ Φ 1 ∗ Φ 2) :=
  bigSep_univ_eq_bigSepL [0, 1, 2] (by decide) (by decide) Φ

theorem by_slot (Φ : Piece → sProp 𝕄) : bigSep Finset.univ Φ
    = iprop(bigSep Finset.univ (fun y => Φ (0, y)) ∗ bigSep Finset.univ (fun y => Φ (1, y)) ∗ bigSep Finset.univ (fun y => Φ (2, y))) :=
  (bigSep_univ_prod Φ).trans (all3 _)

theorem slots_of_pay (c : Dev nD) : iprop(barPay (F := F) c 0 ∗ barPay (F := F) c 1 ∗ barPay (F := F) c 2) ⊢ (bigSep Finset.univ (slotRes (F := F) c) : sProp 𝕄) :=
  Entails.of_eq (by_slot (slotRes (F := F) c)).symm

theorem zip (Φ Ψ : Piece → sProp 𝕄) : (iprop((bigSep Finset.univ fun x => Φ x) ∗ (bigSep Finset.univ fun x => Ψ x)) : sProp 𝕄) = bigSep Finset.univ fun x => iprop(Φ x ∗ Ψ x) :=
  (bigSep_sep Finset.univ Φ Ψ).symm

theorem sends (A : Dev nD → ACont F) (K : GSem nD τ sig → ℕ) (c : Dev nD) :
    iprop((bigSep Finset.univ fun x => sndRes A K c x) ∗ bigSep Finset.univ (slotRes (F := F) c)) ⊢ (bigSep Finset.univ (toSend A K c) : sProp 𝕄) :=
  Entails.of_eq (zip (sndRes A K c) (slotRes (F := F) c))

/-- The pieces of the own block cover its buffer. -/
theorem own_pieces (c : Dev nD) (f : ACont F) :
    ((((c : Thread nD τ).loc cc0_scratch0) ↦{fullShare} f) : sProp 𝕄) = iprop(aPts c fullShare 0 0 f ∗ aPts c fullShare 0 1 f ∗ aPts c fullShare 1 0 f ∗ aPts c fullShare 1 1 f) := by
  rw [← all4 (fun y => aPts c fullShare y.1 y.2 f)]
  unfold aPts
  refine Eq.trans ?_ (pointsTo_biUnion (ℓ := (c : Thread nD τ).loc cc0_scratch0) (q := fullShare) (f := f) (Finset.univ : Finset (Fin 2 × Fin 2)) (fun y => (aSet y.1 y.2 : Finset S2x256x256.Idx)) (fun t _ t' _ htt => by
    rw [Finset.disjoint_left]
    intro i h0 h1
    obtain ⟨-, a0, a1⟩ := Finset.mem_filter.mp h0
    obtain ⟨-, b0, b1⟩ := Finset.mem_filter.mp h1
    exact htt (Prod.ext (Fin.ext (a0.symm.trans b0)) (Fin.ext (a1.symm.trans b1)))))
  refine congrArg (fun S : Finset (Idx ((c : Thread nD τ).loc cc0_scratch0)) => ((((c : Thread nD τ).loc cc0_scratch0) ↦[S]{fullShare} f) : sProp 𝕄)) ?_
  refine (Finset.eq_univ_iff_forall.mpr fun (i : S2x256x256.Idx) => ?_).symm
  have h2 : (i 2).val < 256 := (i 2).isLt
  exact Finset.mem_biUnion.mpr ⟨((i 0 : Fin 2), (⟨(i 2).val / 128, by omega⟩ : Fin 2)), Finset.mem_univ _, Finset.mem_filter.mpr ⟨Finset.mem_univ _, rfl, rfl⟩⟩

/-- The pieces of the received blocks cover the receive buffer. -/
theorem slot_pieces (c : Dev nD) (f : RCont F) :
    ((((c : Thread nD τ).loc cc0_scratch1) ↦{fullShare} f) : sProp 𝕄) = bigSep Finset.univ fun x => rPts c x f := by
  unfold rPts
  refine Eq.trans ?_ (pointsTo_biUnion (ℓ := (c : Thread nD τ).loc cc0_scratch1) (q := fullShare) (f := f) (Finset.univ : Finset Piece) (fun x => (rSet x : Finset S3x2x256x256.Idx)) (fun t _ t' _ htt => by
    rw [Finset.disjoint_left]
    intro i h0 h1
    obtain ⟨-, a0, a1, a2⟩ := Finset.mem_filter.mp h0
    obtain ⟨-, b0, b1, b2⟩ := Finset.mem_filter.mp h1
    exact htt (Prod.ext (Fin.ext (a0.symm.trans b0)) (Prod.ext (Fin.ext (a1.symm.trans b1)) (Fin.ext (a2.symm.trans b2))))))
  refine congrArg (fun S : Finset (Idx ((c : Thread nD τ).loc cc0_scratch1)) => ((((c : Thread nD τ).loc cc0_scratch1) ↦[S]{fullShare} f) : sProp 𝕄)) ?_
  refine (Finset.eq_univ_iff_forall.mpr fun (i : S3x2x256x256.Idx) => ?_).symm
  have h2 : (i 3).val < 256 := (i 3).isLt
  exact Finset.mem_biUnion.mpr ⟨((i 0 : Fin 3), (i 1 : Fin 2), (⟨(i 3).val / 128, by omega⟩ : Fin 2)), Finset.mem_univ _,
    Finset.mem_filter.mpr ⟨Finset.mem_univ _, rfl, rfl, rfl⟩⟩

theorem some_slot (c : Dev nD) (x : Piece) (f : RCont F) : (rPts c x f : sProp 𝕄) ⊢ iprop(∃ f, rPts (F := F) c x f) := by
  iintro H; iexists f; iexact H

theorem some_slots (c : Dev nD) (f : RCont F) : (bigSep Finset.univ fun x => rPts c x f : sProp 𝕄) ⊢ bigSep Finset.univ fun x => iprop(∃ f, rPts (F := F) c x f) :=
  bigSep_mono fun x _ => some_slot c x f

theorem handed (c : Dev nD) (f : RCont F) :
    iprop((((c : Thread nD τ).loc cc0_scratch1) ↦{fullShare} f) ∗ bigSep Finset.univ fun x => reached ER (rcvCell c x) 0)
      ⊢ (iprop(slotGive (F := F) c 0 ∗ slotGive (F := F) c 1 ∗ slotGive (F := F) c 2) : sProp 𝕄) := by
  have e : (iprop(slotGive (F := F) c 0 ∗ slotGive (F := F) c 1 ∗ slotGive (F := F) c 2) : sProp 𝕄)
      = bigSep Finset.univ fun x : Piece => iprop((∃ f, rPts (F := F) c x f) ∗ reached ER (rcvCell c x) 0) :=
    (by_slot (fun x : Piece => iprop((∃ f, rPts (F := F) c x f) ∗ reached ER (rcvCell c x) 0))).symm
  rw [e, slot_pieces]
  refine BIBase.Entails.trans ?_ (Entails.of_eq (zip (fun x : Piece => iprop(∃ f, rPts (F := F) c x f)) (fun x => reached ER (rcvCell c x) 0)))
  iintro ⟨H, Hr⟩
  isplitl [H]
  · iapply (some_slots c f); iexact H
  iexact Hr

theorem arrived (A : Dev nD → ACont F) (c : Dev nD) : (bigSep Finset.univ (rcvd A c) : sProp 𝕄)
    ⊢ iprop((bigSep Finset.univ fun x => semVal (rcvCell c x) 0) ∗ (((c : Thread nD τ).loc cc0_scratch1) ↦{fullShare} (landed A c))) := by
  rw [slot_pieces]
  exact Entails.of_eq (zip (fun x => semVal (rcvCell c x) 0) (fun x => rPts c x (landed A c))).symm

/-- What the body starts from. -/
def bodyPre (A : Dev nD → ACont F) (K : GSem nD τ sig → ℕ) (c : Dev nD) : sProp 𝕄 :=
  iprop((∃ f : ACont F, ((c : Thread nD τ).loc cc0_scratch0) ↦{fullShare} f) ∗ (∃ f : RCont F, ((c : Thread nD τ).loc cc0_scratch1) ↦{fullShare} f)
    ∗ (bigSep Finset.univ fun s => sigRes A K c s) ∗ barRes A K c ∗ levAts L lv ∗ (bigSep Finset.univ fun x => sndRes A K c x)
    ∗ (bigSep Finset.univ fun x => rcvRes A K c x) ∗ (bigSep Finset.univ fun x => reached ER (rcvCell c x) 0))

/-- What it leaves. -/
def bodyPost (c : Dev nD) : sProp 𝕄 :=
  iprop((∃ f : ACont F, ((c : Thread nD τ).loc cc0_scratch0) ↦{fullShare} f) ∗ (∃ f : RCont F, ((c : Thread nD τ).loc cc0_scratch1) ↦{fullShare} f)
    ∗ semVal (barCell c) 0 ∗ (bigSep Finset.univ fun x => semVal (sndCell c x) 0) ∗ (bigSep Finset.univ fun x => semVal (rcvCell c x) 0))

theorem body_run {Kt : PUnit → sProp 𝕄} (hA : A c = attnV gQ gK gV) :
    iprop(wins c gW gQ gK gV ∗ oUpto c (outC gW c (A c) (landed A c)) 0 ∗ bodyPre A K c ∗ owesE (F := F) c (O₀ c))
      ⊢ iprop((iprop(wins c gW gQ gK gV ∗ oUpto c (outC gW c (A c) (landed A c)) 2 ∗ bodyPost (F := F) c ∗ owesE c 0) -∗ Kt ⟨⟩)
        -∗ run c (atBufs (cc0_body (F := F))) Kt) := by
  rw [cc0_body_eq_skeleton]; unfold cc0_body_skel run atBufs bodyPre bodyPost
  iintro ⟨Hw, Ho, ⟨⟨%f0, HA⟩, ⟨%f1, HX⟩, HG, HB, Hlev, HS, HR, Hre⟩, HO⟩ Hk
  ihave HV := (handed c f1) $$ [HX Hre]; · iframe
  icases HV with ⟨V0, V1, V2⟩
  ihave HG := (Entails.of_eq (all3 (fun s => sigRes A K c s))) $$ HG
  icases HG with ⟨G0, G1, G2⟩
  ihave HA := (Entails.of_eq (own_pieces c f0)) $$ HA
  icases HA with ⟨A00, A01, A10, A11⟩
  ihave A00 : aAny (F := F) c 0 0 $$ [A00]; · unfold aAny; iexists f0; iexact A00
  ihave A01 : aAny (F := F) c 0 1 $$ [A01]; · unfold aAny; iexists f0; iexact A01
  ihave A10 : aAny (F := F) c 1 0 $$ [A10]; · unfold aAny; iexists f0; iexact A10
  ihave A11 : aAny (F := F) c 1 1 $$ [A11]; · unfold aAny; iexists f0; iexact A11
  rw [wp_bind]
  iapply part1
  iintro %v2 %v13 %v24 %v35
  rw [wp_bind]
  iapply part2 $$ [G0 G1 G2 V0 V1 V2 HB Hlev HO]; · iframe
  iintro ⟨HO, Hbar, B0, B1, B2⟩
  unfold pieces
  ihave HL := (slots_of_pay (F := F) c) $$ [B0 B1 B2]; · iframe
  ihave HS := (sends A K c) $$ [HS HL]; · iframe
  ihave HS := (Entails.of_eq (all12 (toSend A K c))) $$ HS
  ihave HR := (Entails.of_eq (all12 (rcvRes A K c))) $$ HR
  icases HS with ⟨S000, S100, S200, S001, S101, S201, S010, S110, S210, S011, S111, S211⟩
  icases HR with ⟨R000, R100, R200, R001, R101, R201, R010, R110, R210, R011, R111, R211⟩
  rw [wp_bind]
  iapply part3 $$ [Hw]; · iframe
  iintro Hw
  rw [wp_bind]
  iapply (part4 hA) $$ [Hw A00]; · iframe
  iintro ⟨Hw, A00⟩
  rw [wp_bind]
  iapply (part5 (K := K) (l := [(0, 0, 1), (1, 0, 1), (2, 0, 1), (0, 1, 0), (1, 1, 0), (2, 1, 0), (0, 1, 1), (1, 1, 1), (2, 1, 1)])) $$ [Hw A00 S000 S100 S200 HO]; · iframe
  iintro ⟨Hw, A00, P000, P100, P200, HO⟩
  rw [wp_bind]
  iapply part6 $$ [Hw A01]; · iframe
  iintro %v191 ⟨Hw, A01⟩
  rw [wp_bind]
  iapply (part7 (K := K) (l := [(2, 0, 1), (0, 1, 0), (1, 1, 0), (2, 1, 0), (0, 1, 1), (1, 1, 1), (2, 1, 1)]) hA) $$ [A01 S001 S101 HO]; · iframe
  iintro ⟨A01x, A01, P001, P101, HO⟩
  rw [wp_bind]
  iapply (part8 (K := K) (l := [(0, 1, 0), (1, 1, 0), (2, 1, 0), (0, 1, 1), (1, 1, 1), (2, 1, 1)])) $$ [Hw A01x S201 HO]; · iframe
  iintro ⟨Hw, P201, HO⟩
  rw [wp_bind]
  iapply (part9 (K := K) (l := [(1, 1, 0), (2, 1, 0), (0, 1, 1), (1, 1, 1), (2, 1, 1)]) hA) $$ [Hw A10 S010 HO]; · iframe
  iintro ⟨Hw, A10x, A10y, A10, P010, HO⟩
  rw [wp_bind]
  iapply (part10 (K := K) (l := [(0, 1, 1), (1, 1, 1), (2, 1, 1)])) $$ [Hw A10x A10y S110 S210 HO]; · iframe
  iintro ⟨Hw, P110, P210, HO⟩
  rw [wp_bind]
  iapply (part11 hA) $$ [Hw A11]; · iframe
  iintro ⟨Hw, A11⟩
  rw [wp_bind]
  iapply (part12 (K := K) (l := [(2, 1, 1)])) $$ [A11 S011 S111 HO]; · iframe
  iintro %v344 ⟨A11x, A11, P011, P111, HO⟩
  rw [wp_bind]
  iapply part13 $$ [Hw A11x S211 A00 A01 R000 HO]; · iframe
  iintro ⟨Hw, P211, ⟨A00, A01⟩, D000, HO⟩
  rw [wp_bind]
  iapply part14 $$ [Hw D000 R001 R100 HO]; · iframe
  iintro ⟨Hw, D000, D001, D100, HO⟩
  rw [wp_bind]
  iapply part15 $$ [Hw D100 R101 HO]; · iframe
  iintro ⟨Hw, D100, D101, HO⟩
  rw [wp_bind]
  iapply part16 $$ [Hw Ho A10 A11 R200 R201 HO]; · iframe
  iintro ⟨Hw, D200, D201, Ho, ⟨A10, A11⟩, HO⟩
  rw [wp_bind]
  iapply part17 $$ [R010 R011 HO]; · iframe
  iintro ⟨D010, D011, HO⟩
  rw [wp_bind]
  iapply part18 $$ [Hw R110 R111 HO]; · iframe
  iintro ⟨Hw, D110, D111, HO⟩
  rw [wp_bind]
  iapply part19 $$ [Hw R210 R211 HO]; · iframe
  iintro ⟨Hw, D210, D211, HO⟩
  rw [wp_bind]
  iapply part20 $$ [Hw D210 D211 Ho P000 HO]; · iframe
  iintro ⟨Hw, D210, D211, Ho, X000, HO⟩
  rw [wp_bind]
  iapply part21 $$ [P100 P200 P001 HO]; · iframe
  iintro ⟨X100, X200, X001, HO⟩
  rw [wp_bind]
  iapply part22 $$ [P101 P201 P010 HO]; · iframe
  iintro ⟨X101, X201, X010, HO⟩
  rw [wp_bind]
  iapply part23 $$ [P110 P210 P011 HO]; · iframe
  iintro ⟨X110, X210, X011, HO⟩
  iapply (wp_wsnd (1, 1, 1) rfl rfl) $$ [P111 HO]; · iframe
  iintro ⟨HO, X111⟩
  iapply (wp_wsnd (2, 1, 1) rfl rfl) $$ [P211 HO]; · iframe
  iintro ⟨HO, X211⟩

  unfold sent'
  ihave HD := (Entails.of_eq (all12 (rcvd A c)).symm) $$ [D000 D100 D200 D001 D101 D201 D010 D110 D210 D011 D111 D211]; · iframe
  ihave HD := (arrived A c) $$ HD
  icases HD with ⟨HE, HD⟩
  icases X000 with ⟨Y000, Z000⟩
  icases X100 with ⟨Y100, Z100⟩
  icases X200 with ⟨Y200, Z200⟩
  icases X001 with ⟨Y001, Z001⟩
  icases X101 with ⟨Y101, Z101⟩
  icases X201 with ⟨Y201, Z201⟩
  icases X010 with ⟨Y010, Z010⟩
  icases X110 with ⟨Y110, Z110⟩
  icases X210 with ⟨Y210, Z210⟩
  icases X011 with ⟨Y011, Z011⟩
  icases X111 with ⟨Y111, Z111⟩
  icases X211 with ⟨Y211, Z211⟩
  ihave HY := (Entails.of_eq (all12 (F := F) (fun x => semVal (sndCell c x) 0)).symm) $$ [Y000 Y100 Y200 Y001 Y101 Y201 Y010 Y110 Y210 Y011 Y111 Y211]; · iframe
  ihave A00 := (aPts_split 0 0 (A c)).2 $$ [Z000 Z100 Z200 A00]; · iframe
  ihave A01 := (aPts_split 0 1 (A c)).2 $$ [Z001 Z101 Z201 A01]; · iframe
  ihave A10 := (aPts_split 1 0 (A c)).2 $$ [Z010 Z110 Z210 A10]; · iframe
  ihave A11 := (aPts_split 1 1 (A c)).2 $$ [Z011 Z111 Z211 A11]; · iframe
  ihave HA := (Entails.of_eq (own_pieces c (A c)).symm) $$ [A00 A01 A10 A11]; · iframe
  rw [Prog.bind, Prog.pure_eq_ret, wp_ret]; imodintro
  iapply Hk
  isplitl [Hw]; · iexact Hw
  isplitl [Ho]; · iexact Ho
  isplitr [HO]; rotate_left; · iexact HO
  isplitl [HA]; · iexists (A c); iexact HA
  isplitl [HD]; · iexists (landed A c); iexact HD
  isplitl [Hbar]; · iexact Hbar
  isplitl [HY]; · iexact HY
  iexact HE

end Whole

end Cert.Heads
-- ==== Proof.Region.lean ====
/-
# The kernel region: what it is entered from, what it leaves
-/
module

public import proofs.«01_k».proof.Proof.Run

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

def wIn (c : Dev nD) : S1024x512.Idx → Elt F .f32 := V1 m c (Proc.devRef .tc main_arg4)
def qIn (c : Dev nD) : S2x256x256.Idx → Elt F .f32 := V1 m c (Proc.devRef .tc main_v12)
def kIn (c : Dev nD) : S2x4x64x256.Idx → Elt F .f32 := V1 m c (Proc.devRef .tc main_v13)
def vIn (c : Dev nD) : S2x4x64x256.Idx → Elt F .f32 := V1 m c (Proc.devRef .tc main_v14)

/-- The attention block of device c. -/
def att (c : Dev nD) : ACont F := attnV (qIn m c) (kIn m c) (vIn m c)
/-- The result of device c. -/
def res (c : Dev nD) : S2x256x512.Idx → Elt F .bf16 := outC (wIn m c) c (att m c) (landed (att m) c)

/-- The buffers of device c after the region. -/
def W2 (c : Dev nD) : Valuation τ sig (Elt F) := Function.update (V1 m c) (Proc.devRef .tc main_v15) (res m c)

theorem W2_res (c : Dev nD) : W2 m c (Proc.devRef .tc main_v15) = res m c := Function.update_self _ _ _
theorem W2_of (c : Dev nD) (b : DevRef τ sig) (h : b ≠ Proc.devRef .tc main_v15) : W2 m c b = V1 m c b := Function.update_of_ne h _ _

/-! ## The protocol's resources around the region's entry -/

section Ghost

variable (A : Dev nD → ACont F) (K : GSem nD τ sig → ℕ) (c : Dev nD)

def sndShut (x : Piece) : sProp 𝕄 :=
  iprop(cellInv ER (rd A) (K (sndCell c x)) (sndCell c x) ∗ cellInv ER (rd A) (K (rcvCell (tgt x.1 c) x)) (rcvCell (tgt x.1 c) x)
    ∗ dutyTok ER (sndCell c x) 0 0 ∗ dutyTok ER (rcvCell (tgt x.1 c) x) 0 0 ∗ openTok ER (sndCell c x))
def rcvShut (x : Piece) : sProp 𝕄 :=
  iprop(cellInv ER (rd A) (K (rcvCell c x)) (rcvCell c x) ∗ cred (tallyAt (rcvCell c x) () N) ∗ openTok ER (rcvCell c x))

/-- Before the region: the cells of the transfers not opened. -/
def shut : sProp 𝕄 :=
  iprop((bigSep Finset.univ fun s => sigRes A K c s) ∗ barRes A K c ∗ (bigSep Finset.univ fun x => sndShut A K c x) ∗ (bigSep Finset.univ fun x => rcvShut A K c x))
/-- In the region: opened. -/
def opened : sProp 𝕄 :=
  iprop((bigSep Finset.univ fun s => sigRes A K c s) ∗ barRes A K c ∗ levAts L lv ∗ (bigSep Finset.univ fun x => sndRes A K c x)
    ∗ (bigSep Finset.univ fun x => rcvRes A K c x) ∗ (bigSep Finset.univ fun x => reached ER (rcvCell c x) 0))

theorem snd_open (x : Piece) : iprop(sndShut A K c x ∗ semVal (sndCell c x) 0) ⊢ (|={Set.univ}=> sndRes A K c x : sProp 𝕄) := by
  unfold sndShut sndRes
  iintro ⟨⟨#H0, H1, H2, H3, Ho⟩, Hv⟩
  imod (Rounds.cell_open ER (rd A) (g := sndCell c x) (Set.mem_univ (K (sndCell c x)))) $$ [Ho Hv] with ⟨Hat, #Hr⟩
  · isplitr; · iexact H0
    isplitl [Ho] <;> iassumption
  imodintro
  isplitr; · iexact H0
  isplitl [H1]; · iexact H1
  isplitl [H2]; · iexact H2
  isplitr; · iexact Hr
  isplitl [H3] <;> iassumption

theorem rcv_open (x : Piece) : iprop(rcvShut A K c x ∗ semVal (rcvCell c x) 0) ⊢ (|={Set.univ}=> iprop(rcvRes A K c x ∗ reached ER (rcvCell c x) 0) : sProp 𝕄) := by
  unfold rcvShut rcvRes
  iintro ⟨⟨#H0, H1, Ho⟩, Hv⟩
  imod (Rounds.cell_open ER (rd A) (g := rcvCell c x) (Set.mem_univ (K (rcvCell c x)))) $$ [Ho Hv] with ⟨Hat, #Hr⟩
  · isplitr; · iexact H0
    isplitl [Ho] <;> iassumption
  imodintro
  isplitl [H1 Hat]
  · isplitr; · iexact H0
    isplitl [H1] <;> iassumption
  iexact Hr

theorem all_open {Φ Ψ X : Piece → sProp 𝕄} (h : ∀ x, iprop(Φ x ∗ Ψ x) ⊢ (|={Set.univ}=> X x : sProp 𝕄)) :
    iprop((bigSep Finset.univ fun x => Φ x) ∗ (bigSep Finset.univ fun x => Ψ x)) ⊢ (|={Set.univ}=> bigSep Finset.univ fun x => X x : sProp 𝕄) := by
  rw [zip Φ Ψ]
  exact (bigSep_mono fun x _ => h x).trans (bigSep_fupd _ _)

end Ghost

/-- The semaphores of the transfers. -/
abbrev osem (k : Fin 2 × Piece) : SemLoc sig := match k.1 with | 0 => .dma (sndS k.2) | 1 => .dma (rcvS k.2)

theorem ownSemFacts : Pipeline.OwnSemFacts spec0 osem := by decide

theorem ownSems0_eq (c : Dev nD) : (Pipeline.ownSems0 (Ix := Unit) (Name := ℕ) (U := UU) (Lvl := ℕ) (Val := Elt F) (τ := τ) osem c : sProp 𝕄)
    = iprop((bigSep Finset.univ fun x => semVal (sndCell c x) 0) ∗ (bigSep Finset.univ fun x => semVal (rcvCell c x) 0)) := by
  unfold Pipeline.ownSems0
  rw [bigSep_univ_prod]
  exact BI.bigSep_fin_two _

/-! ## The region's data -/

def regIn (c : Dev nD) : sProp 𝕄 :=
  iprop((∃ f : ACont F, ((c : Thread nD τ).loc cc0_scratch0) ↦{fullShare} f) ∗ (∃ f : RCont F, ((c : Thread nD τ).loc cc0_scratch1) ↦{fullShare} f)
    ∗ (∃ K, opened (att m) K c) ∗ ∃ r, prngReg c r)
def regOut (c : Dev nD) : sProp 𝕄 := iprop(bodyPost (F := F) c ∗ ∃ r, prngReg c r)

def dats (_ : Fin 1) (c : Dev nD) : Dat τ (Elt F) Unit ℕ UU ℕ cfg0 c where
  A w := V1 m c (Proc.devRef .tc (Pipeline.arrRef spec0 w))
  after w _ := match w with
    | ⟨0, _⟩ => wIn m c
    | ⟨1, _⟩ => qIn m c
    | ⟨2, _⟩ => kIn m c
    | ⟨3, _⟩ => vIn m c
    | ⟨4, _⟩ => res m c
  Φ t := match t with
    | ⟨0, _⟩ => regIn m c
    | ⟨_ + 1, _⟩ => regOut (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 5) t0_0 d = wIn m c := by
  have hz : (fun a => (win0_0.index t0_0) a * main_arg4.ty.shape.size a) = fun _ => 0 := funext fun a => by fin_cases a <;> exact Nat.zero_mul _
  unfold Dat.before
  rw [if_pos (fetch0_0 t0_0)]
  show (win0_0.blk t0_0).view.read (Elt F) (V1 m c (Proc.devRef .tc main_arg4)) = _
  exact Memref.read_access_unit_zero (Elt F) main_arg4 hz (fun a => by fin_cases a <;> decide) _
theorem before_1 (c : Dev nD) (d) : (dats m 0 c).before (1 : Fin 5) t0_0 d = qIn m c := by
  have hz : (fun a => (win0_1.index t0_0) a * main_v12.ty.shape.size a) = fun _ => 0 := funext fun a => by fin_cases a <;> exact Nat.zero_mul _
  unfold Dat.before
  rw [if_pos (fetch0_1 t0_0)]
  show (win0_1.blk t0_0).view.read (Elt F) (V1 m c (Proc.devRef .tc main_v12)) = _
  exact Memref.read_access_unit_zero (Elt F) main_v12 hz (fun a => by fin_cases a <;> decide) _
theorem before_2 (c : Dev nD) (d) : (dats m 0 c).before (2 : Fin 5) t0_0 d = kIn m c := by
  have hz : (fun a => (win0_2.index t0_0) a * main_v13.ty.shape.size a) = fun _ => 0 := funext fun a => by fin_cases a <;> exact Nat.zero_mul _
  unfold Dat.before
  rw [if_pos (fetch0_2 t0_0)]
  show (win0_2.blk t0_0).view.read (Elt F) (V1 m c (Proc.devRef .tc main_v13)) = _
  exact Memref.read_access_unit_zero (Elt F) main_v13 hz (fun a => by fin_cases a <;> decide) _
theorem before_3 (c : Dev nD) (d) : (dats m 0 c).before (3 : Fin 5) t0_0 d = vIn m c := by
  have hz : (fun a => (win0_3.index t0_0) a * main_v14.ty.shape.size a) = fun _ => 0 := funext fun a => by fin_cases a <;> exact Nat.zero_mul _
  unfold Dat.before
  rw [if_pos (fetch0_3 t0_0)]
  show (win0_3.blk t0_0).view.read (Elt F) (V1 m c (Proc.devRef .tc main_v14)) = _
  exact Memref.read_access_unit_zero (Elt F) main_v14 hz (fun a => by fin_cases a <;> decide) _

/-- The result's array after the one point. -/
theorem arr_4 (c : Dev nD) : (dats m 0 c).arrAt (4 : Fin 5) cfg0.N = res m c := by
  have hz : (fun a => (win0_4.index t0_0) a * main_v15.ty.shape.size a) = fun _ => 0 := funext fun a => by fin_cases a <;> exact Nat.zero_mul _
  have hr := fun f => Memref.read_access_unit_zero (Elt F) main_v15 hz (fun a => by fin_cases a <;> decide) f
  refine (hr _).symm.trans ?_
  rw [show cfg0.N = (t0_0 : Fin cfg0.N).val + 1 from rfl, (dats m 0 c).arrAt_succ (4 : Fin 5) t0_0, if_pos (flush0_4 t0_0)]
  exact View.read_write_univ _ _

theorem owed_first (c : Dev nD) : (dats m 0 c).owed t0_0.castSucc = O₀ c := rfl
theorem owed_last (c : Dev nD) : (dats m 0 c).owed t0_0.succ = 0 := rfl

theorem owesAt_intro (c : Dev nD) (t : Fin (cfg0.N + 1)) (O : CellTallies nD τ sig Unit) (h0 : (dats m 0 c).owed t = O) :
    owesE (F := F) c O ⊢ ((dats m 0 c).owesAt () t : sProp 𝕄) := by
  unfold owesE Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig Unit) (h0 : (dats m 0 c).owed t = O) :
    ((dats m 0 c).owesAt () t : sProp 𝕄) ⊢ owesE (F := F) c O := by
  unfold owesE Dat.owesAt Pipeline.owesWithin; rw [h0]
  iintro ⟨%W, -, HO⟩; iexists W; iexact HO

/-- The staging buffers as the region hands them over. -/
def stagedIn (c : Dev nD) : sProp 𝕄 :=
  iprop((∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))
/-- And as it takes them back. -/
def stagedOut (c : Dev nD) : sProp 𝕄 :=
  iprop(stg c cc0_stg0_0 (wIn m c) ∗ stg c cc0_stg1_0 (qIn m c) ∗ stg c cc0_stg2_0 (kIn m c) ∗ stg c cc0_stg3_0 (vIn m c) ∗ stg c cc0_stg4_0 (res m c))

theorem staged_in (c : Dev nD) : stagedIn m c ⊢ (iprop(wins c (wIn m c) (qIn m c) (kIn m c) (vIn m c) ∗ oUpto c (res m c) 0) : sProp 𝕄) := by
  unfold stagedIn wins oUpto
  iintro ⟨⟨%d0, %f0, %h0, H0⟩, ⟨%d1, %f1, %h1, H1⟩, ⟨%d2, %f2, %h2, H2⟩, ⟨%d3, %f3, %h3, H3⟩, ⟨%d4, %f4, %h4, H4⟩⟩
  rw [before_0] at h0; rw [before_1] at h1; rw [before_2] at h2; rw [before_3] at h3
  rw [h0, h1, h2, h3]
  isplitl [H0 H1 H2 H3]; · iframe
  iexists f4
  isplitr
  · ipureintro; exact fun i h => absurd h (Nat.not_lt_zero _)
  iexact H4

theorem staged_out (c : Dev nD) : (iprop(wins c (wIn m c) (qIn m c) (kIn m c) (vIn m c) ∗ oUpto c (res m c) 2) : sProp 𝕄) ⊢ stagedOut m c := by
  unfold stagedOut wins oUpto
  iintro ⟨⟨H0, H1, H2, H3⟩, ⟨%f, %h, H4⟩⟩
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists f
  isplitr
  · ipureintro; exact funext fun i : S2x256x512.Idx => h i (i 0).isLt
  iexact H4

set_option maxRecDepth 40000 in
theorem body_obligation (c : Dev nD) : BodyObligation (dats (F := F) m 0 c) (defs₀ (F := F)) 𝒱₀ () Set.univ := fun t => by
  obtain rfl := fin_N0 t
  rw [bigSep_W0, bigSep_W0]
  simp only [owns_whole_eq]
  show iprop(regIn m c ∗ (dats m 0 c).owesAt () t0_0.castSucc ∗ stagedIn m c)
    ⊢ run c (atBufs (cc0_body (F := F))) (fun _ => iprop(regOut (F := F) c ∗ (dats m 0 c).owesAt () t0_0.succ ∗ stagedOut m c))
  unfold regIn regOut opened
  iintro ⟨⟨HA, HX, ⟨%K, H1, H2, H3, H4, H5, H6⟩, Hp⟩, HO, Hs⟩
  ihave Hs := (staged_in m c) $$ Hs
  icases Hs with ⟨Hw, Ho⟩
  ihave HO := (owesAt_elim m c _ (O₀ c) (owed_first m c)) $$ HO
  iapply (body_run (A := att m) (K := K) (c := c) (gW := wIn m c) (gQ := qIn m c) (gK := kIn m c) (gV := vIn m c) rfl) $$ [HA HX H1 H2 H3 H4 H5 H6 HO Hw Ho]
  · unfold bodyPre
    isplitl [Hw]; · iexact Hw
    isplitl [Ho]; · iexact Ho
    isplitr [HO]
    · iframe
    iexact HO
  iintro ⟨Hw, Ho, Hb, HO⟩
  isplitl [Hb Hp]; · isplitl [Hb] <;> iassumption
  isplitl [HO]
  · iapply (owesAt_intro m c t0_0.succ 0 (owed_last m c)); iexact HO
  iapply (staged_out m c)
  isplitl [Hw]; · iexact Hw
  iexact Ho

/-! ## The region -/

def arrs : Finset (DevRef τ sig) := Pipeline.arrRefs (τ := τ) spec0
def rest : Finset (DevRef τ sig) := Pipeline.ucRefs τ sig \ arrs

theorem arrs_sub : arrs ⊆ Pipeline.ucRefs τ sig := by decide

/-- What launch keeps for the region. -/
def kept (c : Dev nD) : sProp 𝕄 := iprop(∃ K, shut (att m) K c)
/-- What enters the region's invariant. -/
def entering (c : Dev nD) : sProp 𝕄 := iprop(∃ K, opened (att m) K c)

theorem region_open (c : Dev nD) : iprop(kept m c ∗ Pipeline.ownSems0 osem c ∗ levAts L lv) ⊢ (|={Set.univ}=> entering m c : sProp 𝕄) := by
  rw [ownSems0_eq]
  unfold kept entering shut opened
  iintro ⟨⟨%K, H1, H2, H3, H4⟩, ⟨Hs, Hr⟩, Hlev⟩
  imod (all_open (snd_open (att m) K c)) $$ [H3 Hs] with H3
  · isplitl [H3] <;> iassumption
  imod (all_open (rcv_open (att m) K c)) $$ [H4 Hr] with H4
  · isplitl [H4] <;> iassumption
  ihave H4 := (Entails.of_eq (zip (fun x => rcvRes (att m) K c x) (fun x => reached ER (rcvCell c x) 0)).symm) $$ H4
  icases H4 with ⟨H4, H5⟩
  imodintro
  iexists K
  iframe

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_eq (c : Dev nD) (w : Fin cfg0.W) : (dats m 0 c).share w = fullShare := by unfold Dat.share; split <;> rfl

theorem owed_high (c : Dev nD) (t : Fin (cfg0.N + 1)) (g : GSem nD τ sig) (i : Unit) (h : 0 < (dats m 0 c).owed t g i) : i ∈ L g ∧ (0 : ℕ) < lv g i := by
  match t, h with
  | ⟨0, _⟩, h =>
    obtain ⟨d, sm, rfl, hl⟩ := O₀_pos (c := c) h
    exact ⟨by rw [L_tc]; exact Finset.mem_singleton_self _, hl⟩
  | ⟨_ + 1, _⟩, h => exact absurd h (Nat.lt_irrefl 0)

theorem stage_low : ∀ (w : Fin 5) (s : Fin (win0 w).nbuf), kindOf (.dma ((win0 w).sem s)) = .none := by decide

theorem region_in (c : Dev nD) : iprop(Pipeline.scopedRest spec0 c ∗ (∃ r, prngReg c r) ∗ StableHlo.held (c.tc : Thread nD τ) ∅ (V1 m c) ∗ entering m c)
    ⊢ (dats m 0 c).Φ 0 := by
  show _ ⊢ regIn m c
  rw [scopedRest0_eq]
  unfold regIn entering
  iintro ⟨⟨HA, HX⟩, Hp, -, HK⟩
  iframe

theorem region_out (c : Dev nD) : (dats m 0 c).Φ (Fin.last cfg0.N)
    ⊢ iprop(Pipeline.scopedRest spec0 c ∗ (∃ r, prngReg c r) ∗ StableHlo.held (c.tc : Thread nD τ) ∅ (W2 m c) ∗ Pipeline.ownSems0 osem c ∗ semVal (barCell c) 0) := by
  show regOut (F := F) c ⊢ _
  rw [scopedRest0_eq, ownSems0_eq]
  unfold regOut bodyPost StableHlo.held
  rw [BI.bigSep_empty]
  iintro ⟨⟨HA, HX, Hb, Hs, Hr⟩, Hp⟩
  isplitl [HA HX]; · isplitl [HA] <;> iassumption
  isplitl [Hp]; · iexact Hp
  isplitr; · iempintro
  isplitl [Hs Hr]; · isplitl [Hs] <;> iassumption
  iexact Hb

theorem arr_in (c : Dev nD) (w : Fin cfg0.W) : (dats m 0 c).arrAt w cfg0.N = W2 m c (Proc.devRef .tc (Pipeline.arrRef spec0 w)) := by
  match w with
  | ⟨0, _⟩ => exact ((dats m 0 c).arrAt_in (0 : Fin 5) rfl _).trans (W2_of m c (Proc.devRef .tc main_arg4) (by decide)).symm
  | ⟨1, _⟩ => exact ((dats m 0 c).arrAt_in (1 : Fin 5) rfl _).trans (W2_of m c (Proc.devRef .tc main_v12) (by decide)).symm
  | ⟨2, _⟩ => exact ((dats m 0 c).arrAt_in (2 : Fin 5) rfl _).trans (W2_of m c (Proc.devRef .tc main_v13) (by decide)).symm
  | ⟨3, _⟩ => exact ((dats m 0 c).arrAt_in (3 : Fin 5) rfl _).trans (W2_of m c (Proc.devRef .tc main_v14) (by decide)).symm
  | ⟨4, _⟩ => exact (arr_4 m c).trans (W2_res m c).symm

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem ownSemFacts
    ∅ rest (Finset.empty_subset _) kitP rfl (fun c => (body_obligation m c).loose)
    (fun _ => 0) O₀ (fun c => (zero_add _).symm) (fun _ => rfl) (fun _ => rfl) (share_eq m)
    (V1 m) (W2 m) (fun c b hb => W2_of m c b (fun e => (by decide : Proc.devRef .tc main_v15 ∉ rest \ ∅) (e ▸ hb)))
    (kept m) (fun c => semVal (barCell c) 0) (entering m) (fun c => semVal (barCell c) 0) (region_open m) (region_in m) (region_out m)
    (fun c => by iintro H; imodintro; iexact H)
    (fun _ => 0)
    ⟨fun c w s => by rw [L_tc]; exact Finset.mem_singleton_self _, fun c w s => le_of_eq (congrArg levOf (stage_low w s)), fun c t g i h => owed_high m c t g i h⟩
    (fun _ => iprop(emp))
    (fun _ _ => rfl) (arr_in m)

/-- What rides beside the buffers up to the region. -/
def aside (c : Dev nD) : sProp 𝕄 := iprop(kept m c ∗ (∃ r, prngReg c r) ∗ owesE (F := F) c (O₀ c))

theorem reg_pre (c : Dev nD) : iprop(StableHlo.held (c : Thread nD τ) (Pipeline.ucRefs τ sig) (V1 m c) ∗ aside m c) ⊢ (reg m).pre c := by
  show _ ⊢ iprop(StableHlo.held (c.tc : Thread nD τ) arrs (V1 m c) ∗ (∃ r, prngReg c r)
    ∗ (StableHlo.held (c.tc : Thread nD τ) rest (V1 m c) ∗ emp) ∗ kept m c ∗ ∃ Wd, owes (c : Thread nD τ) (0 + O₀ c) Wd)
  rw [StableHlo.held_sub_split (c.tc : Thread nD τ) arrs_sub, zero_add]
  unfold aside owesE rest
  iintro ⟨⟨Ha, Hr⟩, Hk, Hp, HO⟩
  iframe

theorem reg_post (c : Dev nD) : (reg m).post c
    ⊢ iprop(StableHlo.held (c : Thread nD τ) (Pipeline.ucRefs τ sig) (W2 m c) ∗ (semVal (barCell c) 0 ∗ ∃ W, owes (c : Thread nD τ) (0 : CellTallies nD τ sig Unit) W)) := by
  show iprop(StableHlo.held (c.tc : Thread nD τ) arrs (W2 m c) ∗ (∃ r, prngReg c r)
    ∗ (StableHlo.held (c.tc : Thread nD τ) rest (W2 m c) ∗ emp) ∗ semVal (barCell c) 0 ∗ ∃ Wd, owes (c : Thread nD τ) (0 : CellTallies nD τ sig Unit) Wd) ⊢ _
  rw [StableHlo.held_sub_split (c.tc : Thread nD τ) arrs_sub]
  unfold rest
  iintro ⟨Ha, -, ⟨Hr, -⟩, Hb, HO⟩
  iframe

end Cert.Heads
end
-- ==== Proof.Launch.lean ====
/-
# The launch: the ghost state dealt to the devices, and the run
-/
module

public import proofs.«01_k».proof.Proof.Region

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4)
open Idealize.ShloMosaic.Pipeline (Dat Cfg Window BodyObligation cellOf Seg)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def barEmb : Dev nD ↪ GSem nD τ sig := ⟨fun c => barCell c, fun _ _ h => congrArg (fun g : GSem nD τ sig => g.1.1) h⟩

theorem osem_inj : Function.Injective osem := by decide
theorem osem_ne_bar : ∀ k : Fin 2 × Piece, osem k ≠ .reg barS := by decide

def xferEmb : Dev nD × (Fin 2 × Piece) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev xferCells : Finset (GSem nD τ sig) := Finset.univ.map xferEmb

theorem cells_disjoint : Disjoint (barCells : Finset (GSem nD τ sig)) xferCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ xferCells : Finset (GSem nD τ sig)) :=
  Finset.mem_union_left _ (Finset.mem_map_of_mem barEmb (Finset.mem_univ c))
theorem snd_mem (c : Dev nD) (x : Piece) : sndCell c x ∈ (barCells ∪ xferCells : Finset (GSem nD τ sig)) :=
  Finset.mem_union_right _ (Finset.mem_map_of_mem xferEmb (Finset.mem_univ (c, ((0 : Fin 2), x))))
theorem rcv_mem (c : Dev nD) (x : Piece) : rcvCell c x ∈ (barCells ∪ xferCells : Finset (GSem nD τ sig)) :=
  Finset.mem_union_right _ (Finset.mem_map_of_mem xferEmb (Finset.mem_univ (c, ((1 : Fin 2), x))))

def barTokEmb : Dev nD × Fin 3 ↪ GSem nD τ sig × ℕ × Fin 3 :=
  ⟨fun cs => (barCell cs.1, 0, cs.2), fun _ _ h =>
    Prod.ext (congrArg (fun t : GSem nD τ sig × ℕ × Fin 3 => t.1.1.1) h) (congrArg (fun t : GSem nD τ sig × ℕ × Fin 3 => t.2.2) h)⟩
def xferTokEmb : Dev nD × (Fin 2 × Piece) ↪ GSem nD τ sig × ℕ × Fin 3 :=
  ⟨fun ck => (xferEmb ck, 0, 0), fun _ _ h => xferEmb.injective (congrArg Prod.fst h)⟩

abbrev barToks : Finset (GSem nD τ sig × ℕ × Fin 3) := Finset.univ.map barTokEmb
abbrev xferToks : Finset (GSem nD τ sig × ℕ × Fin 3) := Finset.univ.map xferTokEmb

theorem toks_disjoint : Disjoint (barToks : Finset (GSem nD τ sig × ℕ × Fin 3)) xferToks := by
  rw [Finset.disjoint_left]
  rintro g h₁ h₂
  obtain ⟨c, -, rfl⟩ := Finset.mem_map.mp h₁
  obtain ⟨ck, -, h⟩ := Finset.mem_map.mp h₂
  exact osem_ne_bar ck.2 (congrArg (fun t : GSem nD τ sig × ℕ × Fin 3 => t.1.2) h)

abbrev ghost₀ : UB := launchOf barCells xferCells (barToks ∪ xferToks)

def u₀ : UU := (initOf (Pipeline.cells cfgs cellOf_inj) (Pipeline.launchToks cfgs cellOf_inj), ghost₀)

/-- All of a resource on device 0. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked (BI.own (ER ghost₀))

/-! ## What every device may consult, and what each keeps -/

def records (K : GSem nD τ sig → ℕ) : sProp 𝕄 :=
  iprop((bigSep (barCells ∪ xferCells) fun g => cellInv ER (rd (att m)) (K g) g) ∗ bigSep barCells fun g => reached ER g 0)

instance records_persistent (K : GSem nD τ sig → ℕ) : BI.Persistent (records m K) := by unfold records; infer_instance

theorem inv_at (K : GSem nD τ sig → ℕ) {g : GSem nD τ sig} (hg : g ∈ (barCells ∪ xferCells : Finset (GSem nD τ sig))) :
    records m K ⊢ (cellInv ER (rd (att m)) (K g) g : sProp 𝕄) := by
  unfold records
  exact (sep_elim_left).trans (bigSep_elim hg)

theorem reached_at (K : GSem nD τ sig → ℕ) (c : Dev nD) : records m K ⊢ (reached ER (barCell c) 0 : sProp 𝕄) := by
  unfold records
  exact (sep_elim_right).trans (bigSep_elim (Finset.mem_map_of_mem barEmb (Finset.mem_univ c)))

def sigTok (c : Dev nD) (s : Fin 3) : sProp 𝕄 := dutyTok ER (barCell (org s c)) 0 s
def barOwn (c : Dev nD) : sProp 𝕄 := iprop(cred (tallyAt (barCell c) () 3) ∗ atPos ER (barCell c) 0 ∅ 0)
def sndOwn (c : Dev nD) (x : Piece) : sProp 𝕄 := iprop(dutyTok ER (sndCell c x) 0 0 ∗ dutyTok ER (rcvCell (tgt x.1 c) x) 0 0 ∗ openTok ER (sndCell c x))
def rcvOwn (c : Dev nD) (x : Piece) : sProp 𝕄 := iprop(cred (tallyAt (rcvCell c x) () N) ∗ openTok ER (rcvCell c x))

/-- What stays with device c alone. -/
def linear (c : Dev nD) : sProp 𝕄 :=
  iprop((bigSep Finset.univ fun s => sigTok (F := F) c s) ∗ barOwn (F := F) c ∗ (bigSep Finset.univ fun x => sndOwn (F := F) c x) ∗ (bigSep Finset.univ fun x => rcvOwn (F := F) c x))

theorem sig_intro (K : GSem nD τ sig → ℕ) (c : Dev nD) (s : Fin 3) : iprop(records m K ∗ sigTok (F := F) c s) ⊢ sigRes (att m) K c s := by
  unfold sigTok sigRes
  iintro ⟨#HR, Ht⟩
  isplitr; · iapply (inv_at m K (bar_mem (org s c))); iexact HR
  isplitl [Ht]; · iexact Ht
  iapply (reached_at m K (org s c)); iexact HR

theorem bar_intro (K : GSem nD τ sig → ℕ) (c : Dev nD) : iprop(records m K ∗ barOwn (F := F) c) ⊢ barRes (att m) K c := by
  unfold barOwn barRes
  iintro ⟨#HR, Hc, Ha⟩
  isplitr; · iapply (inv_at m K (bar_mem c)); iexact HR
  isplitl [Hc] <;> iassumption

theorem snd_intro (K : GSem nD τ sig → ℕ) (c : Dev nD) (x : Piece) : iprop(records m K ∗ sndOwn (F := F) c x) ⊢ sndShut (att m) K c x := by
  unfold sndOwn sndShut
  iintro ⟨#HR, H1, H2, H3⟩
  isplitr; · iapply (inv_at m K (snd_mem c x)); iexact HR
  isplitr; · iapply (inv_at m K (rcv_mem (tgt x.1 c) x)); iexact HR
  isplitl [H1]; · iexact H1
  isplitl [H2] <;> iassumption

theorem rcv_intro (K : GSem nD τ sig → ℕ) (c : Dev nD) (x : Piece) : iprop(records m K ∗ rcvOwn (F := F) c x) ⊢ rcvShut (att m) K c x := by
  unfold rcvOwn rcvShut
  iintro ⟨#HR, H1, H2⟩
  isplitr; · iapply (inv_at m K (rcv_mem c x)); iexact HR
  isplitl [H1] <;> iassumption

theorem shut_intro (K : GSem nD τ sig → ℕ) (c : Dev nD) : iprop(records m K ∗ linear (F := F) c) ⊢ shut (att m) K c := by
  unfold linear shut
  iintro ⟨#HR, H1, H2, H3, H4⟩
  isplitl [H1]
  · iapply (bigSep_with_persistent (S := Finset.univ) (R := records m K) (Φ := fun s => sigTok (F := F) c s) fun s _ => sig_intro m K c s)
    isplitr; · iexact HR
    iexact H1
  isplitl [H2]
  · iapply (bar_intro m K c)
    isplitr; · iexact HR
    iexact H2
  isplitl [H3]
  · iapply (bigSep_with_persistent (S := Finset.univ) (R := records m K) (Φ := fun x => sndOwn (F := F) c x) fun x _ => snd_intro m K c x)
    isplitr; · iexact HR
    iexact H3
  iapply (bigSep_with_persistent (S := Finset.univ) (R := records m K) (Φ := fun x => rcvOwn (F := F) c x) fun x _ => rcv_intro m K c x)
  isplitr; · iexact HR
  iexact H4

/-! ## Tokens and positions dealt -/

/-- A family over the devices and `I`, each member of `I` moved along its own permutation of the devices. -/
theorem around {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [Pipeline.bigSep_univ_comm, Pipeline.bigSep_univ_comm (fun c i => Φ (e i c) i)]
  exact bigSep_congr fun i _ => bigSep_univ_equiv (e i) fun c => Φ c i

theorem bar_toks : (bigSep barToks fun t => dutyTok ER t.1 t.2.1 t.2.2 : sProp 𝕄) = bigSep Finset.univ fun c => bigSep Finset.univ fun s => sigTok (F := F) c s := by
  rw [bigSep_map, bigSep_univ_prod]
  exact around orgEquiv fun c s => dutyTok ER (barCell c) 0 s

/-- A family over the transfers' cells, device by device. -/
theorem over_xfer (Φ : GSem nD τ sig → sProp 𝕄) : bigSep xferCells Φ
    = bigSep Finset.univ fun c : Dev nD => iprop((bigSep Finset.univ fun x => Φ (sndCell c x)) ∗ bigSep Finset.univ fun x => Φ (rcvCell c x)) := by
  rw [bigSep_map, bigSep_univ_prod]
  refine bigSep_congr fun c _ => ?_
  rw [bigSep_univ_prod]
  exact BI.bigSep_fin_two _

theorem xfer_toks : (bigSep xferToks fun t => dutyTok ER t.1 t.2.1 t.2.2 : sProp 𝕄)
    = bigSep Finset.univ fun c : Dev nD => iprop((bigSep Finset.univ fun x => dutyTok ER (sndCell c x) 0 0) ∗ bigSep Finset.univ fun x => dutyTok ER (rcvCell (tgt x.1 c) x) 0 0) := by
  have e : (bigSep xferToks fun t => dutyTok ER t.1 t.2.1 t.2.2 : sProp 𝕄) = bigSep xferCells fun g => dutyTok ER g 0 0 := by
    rw [bigSep_map, bigSep_map]; rfl
  rw [e, over_xfer, bigSep_sep', bigSep_sep']
  exact congrArg (fun X : sProp 𝕄 => iprop((bigSep Finset.univ fun c : Dev nD => bigSep Finset.univ fun x => dutyTok ER (sndCell c x) 0 0) ∗ X))
    (around (fun x : Piece => tgtEquiv x.1) fun c x => dutyTok ER (rcvCell c x) 0 0)

/-! ## The launch credit -/

theorem owedL_apply (l : List (GSem nD τ sig × ℕ)) (g : GSem nD τ sig) : owedL l g () = (l.map fun p => if g = p.1 then p.2 else 0).sum := by
  induction l with
  | nil => rfl
  | cons p l ih =>
    show owedL l g () + tallyAt p.1 () p.2 g () = _
    rw [ih, tallyAt_apply, List.map_cons, List.sum_cons, Nat.add_comm]
    simp

theorem cell_eq {a b : Dev nD} {u v : SemLoc sig} : ((((a : Thread nD τ), u) : GSem nD τ sig) = ((b : Thread nD τ), v)) = (a = b ∧ u = v) :=
  propext ⟨fun h => ⟨congrArg (fun g : GSem nD τ sig => g.1.1) h, congrArg Prod.snd h⟩, fun ⟨h, h'⟩ => by rw [h, h']⟩

theorem rcvS_eq : ∀ x y : Piece, ((SemLoc.dma (rcvS x) : SemLoc sig) = .dma (rcvS y)) = (x = y) := fun x y =>
  propext ⟨fun h => by have := (kindOf_rcv x).symm.trans ((congrArg kindOf h).trans (kindOf_rcv y)); injection this, fun h => by rw [h]⟩
theorem bar_ne_rcv (x : Piece) : ((SemLoc.reg barS : SemLoc sig) = .dma (rcvS x)) = False := propext ⟨fun h => (osem_ne_bar (1, x)) h.symm, False.elim⟩
theorem rcv_ne_bar (x : Piece) : ((SemLoc.dma (rcvS x) : SemLoc sig) = .reg barS) = False := propext ⟨fun h => (osem_ne_bar (1, x)) h, False.elim⟩

theorem owed_bar (d c : Dev nD) : O₀ d (barCell c) () = (if c = org 0 d then 1 else 0) + ((if c = org 1 d then 1 else 0) + (if c = org 2 d then 1 else 0)) := by
  unfold O₀ owedP
  rw [owedL_apply]
  simp only [List.map_cons, List.sum_cons, List.map_map, cell_eq, bar_ne_rcv, Function.comp_def, and_false, if_false, and_true]
  simp

theorem owed_rcv (d c : Dev nD) (x : Piece) : O₀ d (rcvCell c x) () = N * (pieces.map fun y => if c = tgt y.1 d ∧ x = y then 1 else 0).sum := by
  unfold O₀ owedP
  rw [owedL_apply]
  simp only [List.map_cons, List.sum_cons, List.map_map, cell_eq, rcv_ne_bar, rcvS_eq, Function.comp_def, and_false, if_false, Nat.zero_add]
  rw [← List.sum_map_mul_left]
  simp

theorem bar_total : ∀ c : Dev nD, (∑ d : Dev nD, ((if c = org 0 d then 1 else 0) + ((if c = org 1 d then 1 else 0) + (if c = org 2 d then 1 else 0)))) = 3 := by decide
theorem rcv_total : ∀ (c : Dev nD) (x : Piece), (∑ d : Dev nD, (pieces.map fun y => if c = tgt y.1 d ∧ x = y then 1 else 0).sum) = 1 := by decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, bar_total]

theorem launch_rcv (c : Dev nD) (x : Piece) :
    tallyOn (rcvCell c x) (launchCredit (Pipeline.owing O₀) 0 (rcvCell c x)) = (tallyAt (rcvCell c x) () N : CellTallies nD τ sig Unit) := by
  unfold tallyAt; refine congrArg _ (Finsupp.ext fun u => ?_); cases u
  rw [Pipeline.launchCredit_owing, Finsupp.single_eq_same, Finset.sum_congr rfl fun d _ => owed_rcv d c x, ← Finset.mul_sum, rcv_total, Nat.mul_one]

def rcvEmb : Piece ↪ SemLoc sig := ⟨fun x => .dma (rcvS x), fun x y h => by rwa [rcvS_eq] at h⟩

theorem creds (c : Dev nD) :
    (Pipeline.launchCred O₀ c : sProp 𝕄) ⊢ iprop(cred (tallyAt (barCell c) () 3) ∗ bigSep Finset.univ fun x => cred (tallyAt (rcvCell c x) () N)) := by
  unfold Pipeline.launchCred
  rw [bigSep_univ_at _ (SemLoc.reg barS), launch_bar]
  have e : (bigSep Finset.univ fun x => cred (tallyAt (rcvCell c x) () N) : sProp 𝕄)
      = bigSep (Finset.univ.map rcvEmb) fun sm => cred (tallyOn ((c : Thread nD τ), sm) (launchCredit (Pipeline.owing O₀) 0 ((c : Thread nD τ), sm))) := by
    rw [bigSep_map]
    exact (bigSep_congr fun x _ => congrArg cred (launch_rcv c x)).symm
  rw [e]
  refine sep_mono_right (BI.bigSep_subset fun sm h => ?_)
  obtain ⟨x, -, rfl⟩ := Finset.mem_map.mp h
  exact Finset.mem_erase.mpr ⟨fun e => osem_ne_bar (1, x) e, Finset.mem_univ _⟩

/-! ## The first thread state -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V0 m c) ∗ aside m c)
abbrev Tₙ (c : Dev nD) : sProp 𝕄 := iprop(StableHlo.held (c : Thread nD τ) (Pipeline.ucRefs τ sig) (W2 m c) ∗ semVal (barCell c) 0)

/-- What of a device's launch holdings is no ghost state. -/
def plain (c : Dev nD) : sProp 𝕄 :=
  iprop(StableHlo.held (c : Thread nD τ) (Pipeline.ucRefs τ sig) (V0 m c) ∗ owes (c : Thread nD τ) (O₀ c) ∅ ∗ ∃ r, prngReg c r)

theorem T₀_intro (K : GSem nD τ sig → ℕ) (c : Dev nD) : iprop(records m K ∗ (linear (F := F) c ∗ plain m c)) ⊢ T₀ m c := by
  unfold plain T₀ aside kept owesE
  iintro ⟨#HR, Hl, Hh, HO, Hp⟩
  isplitl [Hh]; · iexact Hh
  isplitl [Hl]
  · iexists K
    iapply (shut_intro m K c)
    isplitr; · iexact HR
    iexact Hl
  isplitl [Hp]; · iexact Hp
  iexists ∅; iexact HO

def credsOf (c : Dev nD) : sProp 𝕄 := iprop(cred (tallyAt (barCell c) () 3) ∗ bigSep Finset.univ fun x => cred (tallyAt (rcvCell c x) () N))

theorem dealt (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(plain m c ∗ (credsOf (F := F) c ∗ (semVal (barCell c) 0 ∗ G (F := F) c))) : sProp 𝕄) := by
  rw [show (unscopedBufs c (fun b => m ((c : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), unscopedSems0_eq]
  unfold plain credsOf
  iintro ⟨Hh, Hus, HO, Hcr, Hp, HG⟩
  ihave Hc := (creds (F := F) c) $$ Hcr
  isplitl [Hh HO Hp]
  · isplitl [Hh]; · iexact Hh
    isplitl [HO]; · iexact HO
    iexists (ρ c); iexact Hp
  isplitl [Hc]; · iexact Hc
  isplitl [Hus] <;> iassumption

/-- A family of pairs is the pair of the families. -/
theorem both (Φ Ψ : Dev nD → sProp 𝕄) : (bigSep Finset.univ fun c => iprop(Φ c ∗ Ψ c) : sProp 𝕄) = iprop((bigSep Finset.univ fun c => Φ c) ∗ bigSep Finset.univ fun c => Ψ c) :=
  bigSep_sep Finset.univ Φ Ψ

theorem dealt_all : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G (F := F) c))
    ⊢ (iprop((bigSep Finset.univ fun c => plain m c) ∗ ((bigSep Finset.univ fun c => credsOf (F := F) c)
        ∗ ((bigSep Finset.univ fun c : Dev nD => semVal (barCell c) 0) ∗ bigSep Finset.univ fun c => G (F := F) c))) : sProp 𝕄) := by
  rw [← both, ← both, ← both]
  exact bigSep_mono fun c _ => dealt m ρ c

/-- One device's share of the ghost state, from its parts. -/
theorem linear_intro (c : Dev nD) : iprop(credsOf (F := F) c ∗ (atPos ER (barCell c) 0 ∅ 0 ∗ ((bigSep Finset.univ fun s => sigTok (F := F) c s)
      ∗ (((bigSep Finset.univ fun x => openTok ER (sndCell c x)) ∗ bigSep Finset.univ fun x => openTok ER (rcvCell c x))
        ∗ ((bigSep Finset.univ fun x => dutyTok ER (sndCell c x) 0 0) ∗ bigSep Finset.univ fun x => dutyTok ER (rcvCell (tgt x.1 c) x) 0 0)))))
    ⊢ linear (F := F) c := by
  unfold linear barOwn sndOwn rcvOwn credsOf
  rw [← zip, ← zip, ← zip]
  iintro ⟨⟨Hb, Hc⟩, Ha, Hs, ⟨Ho1, Ho2⟩, Ht1, Ht2⟩
  iframe

theorem linear_all : iprop((bigSep Finset.univ fun c => credsOf (F := F) c) ∗ ((bigSep Finset.univ fun c : Dev nD => atPos ER (barCell c) 0 ∅ 0)
      ∗ ((bigSep Finset.univ fun c : Dev nD => bigSep Finset.univ fun s => sigTok (F := F) c s)
      ∗ ((bigSep Finset.univ fun c : Dev nD => iprop((bigSep Finset.univ fun x => openTok ER (sndCell c x)) ∗ bigSep Finset.univ fun x => openTok ER (rcvCell c x)))
        ∗ (bigSep Finset.univ fun c : Dev nD => iprop((bigSep Finset.univ fun x => dutyTok ER (sndCell c x) 0 0) ∗ bigSep Finset.univ fun x => dutyTok ER (rcvCell (tgt x.1 c) x) 0 0))))))
    ⊢ (bigSep Finset.univ fun c => linear (F := F) c : sProp 𝕄) := by
  rw [← both, ← both, ← both, ← both]
  exact bigSep_mono fun c _ => linear_intro (F := F) c

theorem toks_split : (bigSep (barToks ∪ xferToks) fun t => dutyTok ER t.1 t.2.1 t.2.2 : sProp 𝕄)
    ⊢ iprop((bigSep barToks fun t => dutyTok ER t.1 t.2.1 t.2.2) ∗ bigSep xferToks fun t => dutyTok ER t.1 t.2.1 t.2.2) :=
  Entails.of_eq (BI.bigSep_union toks_disjoint)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H := (dealt_all m ρ) $$ H
  icases H with ⟨HP, HC, Hv, HG⟩
  ihave Hu := (show bigSep Finset.univ (G (F := F)) ⊢ BI.own (ER ghost₀) from Entails.of_eq (bigSep_parked (F := F) (BI.own (ER ghost₀)))) $$ HG
  imod (Rounds.fund_launch ER (rd (att m)) cells_disjoint (fun g _ h => h) (barToks ∪ xferToks)) $$ [Hv Hu] with ⟨%κ, -, #Hinv, #Hr, Hat, Hopen, Htok⟩
  · isplitl [Hv]
    · iapply hv $$ Hv
    · iexact Hu
  imodintro
  iapply (bigSep_with_persistent (S := Finset.univ) (R := records m κ) (Φ := fun c => iprop(linear (F := F) c ∗ plain m c)) fun c _ => T₀_intro m κ c)
  isplitr
  · unfold records
    isplitr; · iexact Hinv
    iexact Hr
  iapply (Entails.of_eq (both (F := F) (fun c => linear (F := F) c) (plain m)).symm)
  isplitr [HP]
  · ihave Htok := (toks_split (F := F)) $$ Htok
    icases Htok with ⟨Hb, Hx⟩
    iapply (linear_all (F := F))
    isplitl [HC]; · iexact HC
    isplitl [Hat]; · iapply hat $$ Hat
    isplitl [Hb]; · iapply (Entails.of_eq (bar_toks (F := F))) $$ Hb
    isplitl [Hopen]
    · iapply (Entails.of_eq (over_xfer (F := F) fun g => openTok ER g)) $$ Hopen
    iapply (Entails.of_eq (xfer_toks (F := F))) $$ Hx
  · iexact HP

/-! ## The run -/

theorem unscoped_eq : ∀ sm : SemLoc sig, sm.isScoped .tc = false → sm = .reg barS := by decide

/-- What every device's buffers hold at the end. -/
def AtEnd (r : PUnit × MemSt nD τ sig (Elt F)) : Prop :=
  ∀ (c : Dev nD) (b : Ref sig .tc), b.isScoped = false → r.2.mem ((c.tc : Thread nD τ).loc b) = W2 m c (Proc.devRef .tc b)

set_option backward.isDefEq.respectTransparency.types false in
theorem run_main : θ_run defs (onTc (τ := τ) (main (F := F))) ⟨m, fun _ => 0, ρ⟩ (fun r => AtEnd m r ∧ r.2.sem = fun _ => 0) := by
  refine Pipeline.θ_run_regions_kit_dev_sems (pcfgs (F := F)) adm (dats m) () cellOf_inj EP defs₀ 𝒱₀ L lv m ρ main
    (segs m 𝒱₀ L lv (fun _ => aside m) () (dats m) (reg m))
    (fun c Q => by
      rewrite [main_chain c, Seg.run_eq_chain,
        show (segs m 𝒱₀ L lv (fun _ => aside m) () (dats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) (O₀ := O₀) (hL := L_of_ne) (G := G (F := F)) (u₀ := u₀)
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := fun c => ⟨.rfl, reg_pre m c, (reg_post m c).trans (by
      iintro ⟨Hh, Hb, HO⟩
      isplitr [HO]
      · isplitl [Hh] <;> iassumption
      · iexact HO)⟩)
    (hinit := init m ρ)
    (QY := fun c s => (∀ b : Ref sig .tc, b.isScoped = false → s.mem ((c.tc : Thread nD τ).loc b) = W2 m c (Proc.devRef .tc b)) ∧ s.sem (barCell c) = 0)
    (hfin := fun c s' => ?_)
    (hQ := fun s h hs => ⟨fun c => (h c).1, sem_eq_zero hs fun c sm hsm => by
      obtain rfl := unscoped_eq sm hsm
      exact (h c).2⟩)
  dsimp only [Tₙ]
  unfold StableHlo.held
  iintro ⟨⟨Hh, Hb⟩, HSI⟩
  icombine HSI Hb gives %hb
  ihave Hr := (pointsTo_read_all (Pipeline.ucRefs τ sig) (fun b => ((c : Thread nD τ).1, b)) (W2 m c) s') $$ [Hh HSI]
  · isplitl [Hh] <;> iassumption
  icases Hr with ⟨%h, HSI⟩
  imodintro
  isplitr
  · ipureintro
    exact ⟨fun b hb' => h (Proc.devRef .tc b) (Finset.mem_filter.mpr ⟨StableHlo.devRef_mem_tcRefs b, by simpa using hb'⟩), by simpa using hb⟩
  · iexact HSI

end Cert.Heads
end
-- ==== Proof.Frames.lean ====
/-
# The frames, of the kernel's two readings and of the reference
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Heads

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- An argument no host operation writes keeps its launch contents to the end. -/
theorem kept_arg {r : PUnit × MemSt nD τ sig (Elt F)} (h : AtEnd m r) (c : Dev nD) (b : Ref sig .tc) (hs : b.isScoped = false)
    (hne : Proc.devRef (τ := τ) .tc b ≠ Proc.devRef .tc main_v15) (hW : b ∉ hostOps0_W) :
    r.2.mem ((c.tc : Thread nD τ).loc b) = m ((c.tc : Thread nD τ).loc b) :=
  (h c b hs).trans ((W2_of m c _ hne).trans (V1_of m c _ hW))

theorem args_kept {r : PUnit × MemSt nD τ sig (Elt F)} (h : AtEnd m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨kept_arg m h c main_arg0 (by decide) (by decide) (by decide), kept_arg m h c main_arg1 (by decide) (by decide) (by decide),
    kept_arg m h c main_arg2 (by decide) (by decide) (by decide), kept_arg m h c main_arg3 (by decide) (by decide) (by decide),
    kept_arg m h c main_arg4 (by decide) (by decide) (by decide)⟩

/-- What the run leaves in the result. -/
theorem result_is {r : PUnit × MemSt nD τ sig (Elt F)} (h : AtEnd m r) (c : Dev nD) :
    r.2.mem ((c.tc : Thread nD τ).loc main_v15) = res m c :=
  (h c main_v15 (by decide)).trans (W2_res m c)

/-- The frame, for any floats. -/
theorem frame_any (ρ : Dev nD → PrngReg) : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c => args_kept m h.1 c, h.2⟩) (run_main m ρ)

/-- The two printings have one body table, -/
theorem bodies_same : Cert.Kernel.defs₀ (F := Bits) = defs₀ (F := Bits) := by
  unfold Cert.Kernel.defs₀ defs₀
  refine congrArg Defs.onTc (funext fun l => funext fun x => ?_)
  obtain rfl : l = 0 := Subsingleton.elim _ _
  obtain ⟨t, s⟩ := x
  rfl

/-- with the regions too. -/
theorem defs_same : Cert.Kernel.defs (F := Bits) = defs (F := Bits) := by
  unfold Cert.Kernel.defs defs
  rw [bodies_same]
  rfl

theorem frame_kernel : Cert.quiescent_Kernel := fun m ρ _ => by
  rw [defs_same]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => (h c).2, funext fun g => by rcases g with ⟨_, sm⟩; rcases sm with i | i <;> exact i.elim0⟩) (Cert.ReferenceIdeal.Value.run m ρ)

end Cert.Heads

end
-- ==== Proof.Plain.lean ====
/-
# The reference's result, read at an index
-/
module

public import proofs.«01_k».proof.Proof.Gen.ReferenceIdeal.Run
public import Idealize.ShloMosaic.Lib.Pointwise

@[expose] public section

noncomputable section

namespace Cert.Heads.Plain

open Cert.ReferenceIdeal Cert.ReferenceIdeal.Gen Idealize.ShloMosaic Idealize.ShloMosaic.TcCoe

/-! ## The stages -/

/-- Each position's block. -/
def blk : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- Which keys a query may read. -/
def allow : IVec S256x256 1 :=
  cmpi .sle (broadcastInDim S256x256 ![0, 1] bcast_S1x256_S256x256_0_1 (broadcastInDim S1x256 ![1] bcast_S256_S1x256_1 blk))
    (broadcastInDim S256x256 ![0, 1] bcast_S256x1_S256x256_0_1 (broadcastInDim S256x1 ![0] bcast_S256_S256x1_0 blk))

/-- The queries that may read some key. -/
def keep : IVec S256 1 := Host.reduce IntOp.ori allow (constantI S_ 1 0#1) reducesTo_S256x256_S256_d1 h_S_

variable (x : FVec Ideal S2x256x512 .f32) (wq : FVec Ideal S512x1024 .f32) (k v : FVec Ideal S2x256x16x64 .f32) (wo : FVec Ideal S1024x512 .f32)

/-- The queries, by heads. -/
def quer : FVec Ideal S2x256x16x64 .f32 :=
  shapeCast _ (Host.dotGeneral dot_S2x256x512_S512x1024_S2x256x1024_2_0_01_1_n_n none x wq) shapeCasts_S2x256x1024_S2x256x16x64

/-- The masked scores. -/
def score (q : FVec Ideal S2x256x16x64 .f32) : FVec Ideal S2x16x256x256 .f32 :=
  select (broadcastInDim S2x16x256x256 ![0, 1, 2, 3] bcast_S1x1x256x256_S2x16x256x256_0_1_2_3 (broadcastInDim S1x1x256x256 ![2, 3] bcast_S256x256_S1x1x256x256_2_3 allow))
    (mulf (Host.dotGeneral dot_S2x256x16x64_S2x256x16x64_S2x16x256x256_3_3_1_1_02_02 none q k) (broadcastInDim S2x16x256x256 ![] bcast_S_S2x16x256x256 (constant S_ .f32 0x3E000000#32)))
    (broadcastInDim S2x16x256x256 ![] bcast_S_S2x16x256x256 (id (constant S_ .f32 0xCE6E6B28#32)))

/-- A row's greatest score. -/
def top (s : FVec Ideal S2x16x256x256 .f32) : FVec Ideal S2x16x256 .f32 :=
  Host.reduce FloatOps.maximumf s (constant S_ .f32 0xFF800000#32) reducesTo_S2x16x256x256_S2x16x256_d3 h_S_

/-- The exponentials. -/
def expo (s : FVec Ideal S2x16x256x256 .f32) : FVec Ideal S2x16x256x256 .f32 :=
  Host.exp (subf s (broadcastInDim S2x16x256x256 ![0, 1, 2, 3] bcast_S2x16x256x1_S2x16x256x256_0_1_2_3 (broadcastInDim S2x16x256x1 ![0, 1, 2] bcast_S2x16x256_S2x16x256x1_0_1_2 (top s))))

/-- The weights. -/
def weight (e : FVec Ideal S2x16x256x256 .f32) : FVec Ideal S2x16x256x256 .f32 :=
  select (broadcastInDim S2x16x256x256 ![0, 1, 2, 3] bcast_S1x1x256x1_S2x16x256x256_0_1_2_3 (broadcastInDim S1x1x256x1 ![2] bcast_S256_S1x1x256x1_2 keep))
    (Host.divf e (broadcastInDim S2x16x256x256 ![0, 1, 2, 3] bcast_S2x16x256x1_S2x16x256x256_0_1_2_3
      (select (broadcastInDim S2x16x256x1 ![0, 1, 2, 3] bcast_S1x1x256x1_S2x16x256x1_0_1_2_3 (broadcastInDim S1x1x256x1 ![2] bcast_S256_S1x1x256x1_2 keep))
        (broadcastInDim S2x16x256x1 ![0, 1, 2] bcast_S2x16x256_S2x16x256x1_0_1_2 (Host.reduceAdd e (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))

/-- The attention, by heads side by side. -/
def atten (w : FVec Ideal S2x16x256x256 .f32) : FVec Ideal S2x256x1024 .f32 :=
  shapeCast _ (transpose S2x256x16x64 [0, 3, 1, 2] (Host.dotGeneral dot_S2x256x16x64_S2x16x256x256_S2x16x64x256_1_3_3_2_02_01 none v w) transposes_S2x16x64x256_S2x256x16x64_0_3_1_2)
    shapeCasts_S2x256x16x64_S2x256x1024

/-- The projection. -/
def proj (a : FVec Ideal S2x256x1024 .f32) : FVec Ideal S2x256x512 .bf16 :=
  truncf .bf16 (Host.dotGeneral dot_S2x256x1024_S1024x512_S2x256x512_2_0_01_1_n_n none a wo) bitsLt_bf16_f32

theorem staged (m : (ℓ : Loc nD τ sig) → Buf (Elt Ideal) ℓ) (c : Dev nD) : Value.res_main_v34 (F := Ideal) m c
    = proj (m ((c.tc : Thread nD τ).loc main_arg4)) (atten (m ((c.tc : Thread nD τ).loc main_arg3)) (weight (expo (score (m ((c.tc : Thread nD τ).loc main_arg2))
      (quer (m ((c.tc : Thread nD τ).loc main_arg0)) (m ((c.tc : Thread nD τ).loc main_arg1))))))) := by
  with_unfolding_all rfl

/-! ## Each at an index -/

theorem blk_apply (q : Fin 256) : blk (ix1 q) = BitVec.ofNat 32 (q.val / 64) := by
  pointwise [blk]
  revert q
  decide +kernel

theorem le_word : ∀ a b : Fin 4, IntOp.cmpi .sle (BitVec.ofNat 32 a.val) (BitVec.ofNat 32 b.val) = BitVec.ofBool (decide (a.val ≤ b.val)) := by decide

theorem allow_apply (q j : Fin 256) : allow (ix2 q j) = BitVec.ofBool (decide (j.val / 64 ≤ q.val / 64)) := by
  pointwise [allow]
  rw [blk_apply, blk_apply]
  exact le_word ⟨j.val / 64, by omega⟩ ⟨q.val / 64, by omega⟩

theorem or_one : ∀ a : BitVec 1, IntOp.ori 1#1 a = 1#1 := by decide

/-- Every query may read a key: its own. -/
theorem keep_apply (q : Fin 256) : keep (ix1 q) = 1#1 := by
  pointwise [keep]
  rw [← Finset.insert_erase (Finset.mem_univ q), Finset.fold_insert (Finset.notMem_erase q _), allow_apply]
  simp only [le_refl, decide_true, BitVec.ofBool_true]
  exact or_one _

theorem quer_apply (b : Fin 2) (q : Fin 256) (p : Fin 16) (d : Fin 64) :
    quer x wq (ix4 b q p d) = ∑ e, x (ix3 b q e) * wq (ix2 e (⟨p.val * 64 + d.val, by omega⟩ : Fin 1024)) := by
  pointwise [quer]

/-- The score of a query and a key the query may not read. -/
def low : EReal := Ideal.ofBits .f32 0xCE6E6B28#32
/-- The factor of the scores. -/
def eighth : EReal := Ideal.ofBits .f32 0x3E000000#32

theorem score_apply (Q) (b : Fin 2) (p : Fin 16) (q j : Fin 256) :
    score k Q (ix4 b p q j) = Scalar.select (BitVec.ofBool (decide (j.val / 64 ≤ q.val / 64))) ((∑ d, Q (ix4 b q p d) * k (ix4 b j p d)) * eighth) low := by
  rw [← allow_apply]
  pointwise [score]
  rfl

theorem top_apply (S) (b : Fin 2) (p : Fin 16) (q : Fin 256) :
    top S (ix3 b p q) = Finset.univ.fold max (⊥ : EReal) fun j => S (ix4 b p q j) := by
  have h : Ideal.ofBits .f32 0xFF800000#32 = ⊥ := by simp [Ideal.ofBits, Ideal.ieee]
  pointwise [top]
  rw [h]

theorem expo_apply (S) (b : Fin 2) (p : Fin 16) (q j : Fin 256) :
    expo S (ix4 b p q j) = Ideal.exp (S (ix4 b p q j) - top S (ix3 b p q)) := by
  pointwise [expo]

theorem weight_apply (E) (b : Fin 2) (p : Fin 16) (q j : Fin 256) :
    weight E (ix4 b p q j) = Ideal.div (E (ix4 b p q j)) (∑ i, E (ix4 b p q i)) := by
  pointwise [weight]
  rw [keep_apply]
  rfl

theorem atten_apply (W) (b : Fin 2) (q : Fin 256) (j : Fin 1024) :
    atten v W (ix3 b q j) = ∑ i, v (ix4 b i (⟨j.val / 64, by omega⟩ : Fin 16) (⟨j.val % 64, by omega⟩ : Fin 64)) * W (ix4 b (⟨j.val / 64, by omega⟩ : Fin 16) q i) := by
  pointwise [atten]

theorem proj_apply (A) (b : Fin 2) (q : Fin 256) (n : Fin 512) : proj wo A (ix3 b q n) = ∑ j, A (ix3 b q j) * wo (ix2 j n) := by
  pointwise [proj]

end Cert.Heads.Plain

end
-- ==== Proof.Heads.lean ====
/-
# The kernel's result, read at an index
-/
module

public import proofs.«01_k».proof.Proof.Region
public import proofs.«01_k».proof.Proof.Plain
public import Idealize.ShloMosaic.Lib.StableHlo.RunClose

@[expose] public section

noncomputable section

namespace Cert.Heads

open Cert.KernelIdeal Cert.KernelIdeal.Gen
open Idealize.ShloMosaic Idealize.ShloMosaic.TcCoe
open Cert.Heads.Plain (low eighth)

/-! ## The mask -/

/-- A position's block, as the kernel computes it. -/
def word (n : ℕ) : BitVec 32 :=
  Scalar.select
    (IntOp.andi
      (IntOp.cmpi .ne
        (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

theorem word_eq : ∀ q : Fin 256, word q.val = BitVec.ofNat 32 (q.val / 64) := by decide +kernel

theorem mask_apply (q j : Fin 256) : mask (ix2 q j) = BitVec.ofBool (decide (j.val / 64 ≤ q.val / 64)) := by
  have h : mask (ix2 q j) = IntOp.cmpi .sle (word j.val) (word q.val) := by
    pointwise [mask, k0_pay1, k0_pay2, k0_pay3, k0_pay4]
    rfl
  rw [h, word_eq, word_eq]
  exact Plain.le_word ⟨j.val / 64, by omega⟩ ⟨q.val / 64, by omega⟩

/-! ## The loads -/

theorem ldQ_apply (g : S2x256x256.Idx → EReal) (b : Fin 2) (p : Fin 4) (z : Fin 1) (q : Fin 256) (d : Fin 64) :
    ldQ (F := Ideal) g b p (ix3 z q d) = g (ix3 b q (⟨64 * p.val + d.val, by omega⟩ : Fin 256)) := by
  unfold ldQ
  refine congrArg g ?_
  funext a
  fin_cases a <;> apply Fin.ext
  · show b.val + 1 * z.val = b.val; omega
  · show 0 + 1 * q.val = q.val; omega
  · show 64 * p.val + 1 * d.val = 64 * p.val + d.val; omega

theorem ldK_apply (g : S2x4x64x256.Idx → EReal) (b : Fin 2) (p : Fin 4) (z z' : Fin 1) (d : Fin 64) (i : Fin 256) :
    ldK (F := Ideal) g b p (ix4 z z' d i) = g (ix4 b p d i) := by
  unfold ldK
  refine congrArg g ?_
  funext a
  fin_cases a <;> apply Fin.ext
  · show b.val + 1 * z.val = b.val; omega
  · show p.val + 1 * z'.val = p.val; omega
  · show 0 + 1 * d.val = d.val; omega
  · show 0 + 1 * i.val = i.val; omega

theorem ldV_apply (g : S2x4x64x256.Idx → EReal) (b : Fin 2) (p : Fin 4) (z z' : Fin 1) (d : Fin 64) (i : Fin 256) :
    ldV (F := Ideal) g b p (ix4 z z' d i) = g (ix4 b p d i) := ldK_apply g b p z z' d i

theorem ldW_apply (g : S1024x512.Idx → EReal) (off : Fin 2 → ℕ) (h) (o : Fin 4) (ho : off = ![256 * o.val, 0]) (j : Fin 256) (n : Fin 512) :
    ldW (F := Ideal) g off h (ix2 j n) = g (ix2 (⟨256 * o.val + j.val, by omega⟩ : Fin 1024) n) := by
  subst ho
  unfold ldW
  refine congrArg g ?_
  funext a
  fin_cases a <;> apply Fin.ext
  · show 256 * o.val + 1 * j.val = 256 * o.val + j.val; omega
  · show 0 + 1 * n.val = n.val; omega

theorem ldA_apply (g : ACont Ideal) (b : Fin 2) (z : Fin 1) (q j : Fin 256) : ldA (F := Ideal) g b (ix3 z q j) = g (ix3 b q j) := by
  unfold ldA
  refine congrArg g ?_
  funext a
  fin_cases a <;> apply Fin.ext
  · show b.val + 1 * z.val = b.val; omega
  · show 0 + 1 * q.val = q.val; omega
  · show 0 + 1 * j.val = j.val; omega

theorem ldR_apply (g : RCont Ideal) (s : Fin 3) (b : Fin 2) (z z' : Fin 1) (q j : Fin 256) : ldR (F := Ideal) g s b (ix4 z z' q j) = g (ix4 s b q j) := by
  unfold ldR
  refine congrArg g ?_
  funext a
  fin_cases a <;> apply Fin.ext
  · show s.val + 1 * z.val = s.val; omega
  · show b.val + 1 * z'.val = b.val; omega
  · show 0 + 1 * q.val = q.val; omega
  · show 0 + 1 * j.val = j.val; omega

theorem landed_apply (A : Dev nD → ACont Ideal) (c : Dev nD) (s : Fin 3) (b : Fin 2) (q j : Fin 256) :
    landed A c (ix4 s b q j) = A (org s c) (ix3 b q j) := by
  rw [ix3_eq_valueIdx]; rfl

/-! ## One head -/

/-- A query's score of a key, masked. -/
def seen (q j : Fin 256) (s : EReal) : EReal := Scalar.select (BitVec.ofBool (decide (j.val / 64 ≤ q.val / 64))) s low

/-- Values weighted by the exponentials of scores, over the sum of these. -/
def weighted (s v : Fin 256 → EReal) : EReal := Ideal.div (∑ i, Ideal.exp (s i) * v i) (∑ i, Ideal.exp (s i))

/-- One head at a query and a feature, out of what the device's windows hold. -/
def headS (gQ : S2x256x256.Idx → EReal) (gK gV : S2x4x64x256.Idx → EReal) (b : Fin 2) (p : Fin 4) (q : Fin 256) (d : Fin 64) : EReal :=
  weighted (fun i => seen q i (∑ e : Fin 64, gQ (ix3 b q (⟨64 * p.val + e.val, by omega⟩ : Fin 256)) * gK (ix4 b p e i))) (fun i => gV (ix4 b p d i))

theorem pay10_apply (gQ : S2x256x256.Idx → EReal) (gK gV : S2x4x64x256.Idx → EReal) (b : Fin 2) (p : Fin 4) (q : Fin 256) (d : Fin 64) :
    k0_pay10 (F := Ideal) mask (ldQ gQ b p) (ldK gK b p) (ldV gV b p) (ix2 q d) = headS gQ gK gV b p q d := by
  pointwise [k0_pay10]
  simp only [mask_apply, ldQ_apply, ldK_apply, ldV_apply]
  rfl

theorem pay12_fst (g0 : FVec Ideal S256x64 .f32) (w : FVec Ideal S256x64 .f32) (k v : Vec Ideal S1x1x64x256 .f32) (q : Fin 256) (d : Fin 64) :
    k0_pay12 (F := Ideal) mask g0 w k v (ix3 0 q (⟨d.val, by omega⟩ : Fin 128)) = g0 (ix2 q d) := by
  pointwise [k0_pay12]

theorem pay12_snd (g0 : FVec Ideal S256x64 .f32) (gQ : S2x256x256.Idx → EReal) (gK gV : S2x4x64x256.Idx → EReal) (b : Fin 2) (p : Fin 4) (q : Fin 256) (d : Fin 64) :
    k0_pay12 (F := Ideal) mask g0 (k0_pay11 (ldQ gQ b p)) (ldK gK b p) (ldV gV b p) (ix3 0 q (⟨64 + d.val, by omega⟩ : Fin 128)) = headS gQ gK gV b p q d := by
  pointwise [k0_pay12, k0_pay11]
  simp only [mask_apply, ldQ_apply, ldK_apply, ldV_apply]
  rfl

theorem attnV_piece (gQ : S2x256x256.Idx → EReal) (gK gV : S2x4x64x256.Idx → EReal) (b : Fin 2) (q J : Fin 256) :
    attnV (F := Ideal) gQ gK gV (ix3 b q J) = pieceV gQ gK gV b (⟨J.val / 128, by omega⟩ : Fin 2) (ix3 0 q (⟨J.val % 128, by omega⟩ : Fin 128)) := by
  rw [ix3_eq_valueIdx 0]
  rfl

/-- The attention block of a device, head by head. -/
theorem attnV_apply (gQ : S2x256x256.Idx → EReal) (gK gV : S2x4x64x256.Idx → EReal) (b : Fin 2) (p : Fin 4) (q : Fin 256) (d : Fin 64) :
    attnV (F := Ideal) gQ gK gV (ix3 b q (⟨64 * p.val + d.val, by omega⟩ : Fin 256)) = headS gQ gK gV b p q d := by
  have key : ∀ (h : Fin 2) (j : Fin 128) (J : Fin 256), J.val = 128 * h.val + j.val →
      attnV (F := Ideal) gQ gK gV (ix3 b q J) = pieceV gQ gK gV b h (ix3 0 q j) := fun h j J e => by
    have hh : (⟨J.val / 128, by omega⟩ : Fin 2) = h := Fin.ext (by show J.val / 128 = h.val; omega)
    have hj : (⟨J.val % 128, by omega⟩ : Fin 128) = j := Fin.ext (by show J.val % 128 = j.val; have := j.isLt; omega)
    rw [attnV_piece, hh, hj]
  rcases Nat.even_or_odd' p.val with ⟨h, e | e⟩
  · have hp : p = evn ⟨h, by omega⟩ := Fin.ext e
    rw [key ⟨h, by omega⟩ ⟨d.val, by omega⟩ _ (by show 64 * p.val + d.val = 128 * h + d.val; omega)]
    unfold pieceV pairV headV
    rw [pay12_fst, pay10_apply, ← hp]
  · have hp : p = odd ⟨h, by omega⟩ := Fin.ext e
    rw [key ⟨h, by omega⟩ ⟨64 + d.val, by omega⟩ _ (by show 64 * p.val + d.val = 128 * h + (64 + d.val); omega)]
    unfold pieceV pairV
    rw [pay12_snd, ← hp]

/-! ## The output -/

theorem off1 (c : Dev nD) : k0_off1 c = ![256 * c.val, 0] := by revert c; decide
theorem off2 (c : Dev nD) : k0_off2 c = ![256 * (org 0 c).val, 0] := by revert c; decide
theorem off3 (c : Dev nD) : k0_off3 c 1#32 = ![256 * (org 1 c).val, 0] ∧ k0_off3 c 2#32 = ![256 * (org 2 c).val, 0] := by revert c; decide

/-- One device's part of the output. -/
def part (gW : S1024x512.Idx → EReal) (o : Dev nD) (a : ACont Ideal) (b : Fin 2) (q : Fin 256) (n : Fin 512) : EReal :=
  ∑ j : Fin 256, a (ix3 b q j) * gW (ix2 (⟨256 * o.val + j.val, by have : o.val < 4 := o.isLt; omega⟩ : Fin 1024) n)

theorem outC_apply (gW : S1024x512.Idx → EReal) (c : Dev nD) (A : Dev nD → ACont Ideal) (b : Fin 2) (q : Fin 256) (n : Fin 512) :
    outC (F := Ideal) gW c (A c) (landed A c) (ix3 b q n)
      = part gW c (A c) b q n + part gW (org 0 c) (A (org 0 c)) b q n + part gW (org 1 c) (A (org 1 c)) b q n + part gW (org 2 c) (A (org 2 c)) b q n := by
  have h : outC (F := Ideal) gW c (A c) (landed A c) (ix3 b q n) = outV (F := Ideal) gW c (A c) (landed A c) b (ix3 0 q n) := by
    rw [ix3_eq_valueIdx 0]; rfl
  rw [h]
  pointwise [outV, k0_pay19, k0_pay18, k0_pay17, k0_pay16]
  simp only [ldA_apply, ldR_apply, landed_apply, ldW_apply gW _ _ c (off1 c), ldW_apply gW _ _ (org 0 c) (off2 c),
    ldW_apply gW _ _ (org 1 c) (off3 c).1, ldW_apply gW _ _ (org 2 c) (off3 c).2]
  rfl

/-- In whatever order, the parts of all devices. -/
theorem parts_all (f : Dev nD → EReal) (c : Dev nD) : f c + f (org 0 c) + f (org 1 c) + f (org 2 c) = ∑ o, f o := by
  have e : Finset.univ = ({c, org 0 c, org 1 c, org 2 c} : Finset (Dev nD)) := by revert c; decide
  have n : c ∉ ({org 0 c, org 1 c, org 2 c} : Finset (Dev nD)) ∧ org 0 c ∉ ({org 1 c, org 2 c} : Finset (Dev nD)) ∧ org 1 c ≠ org 2 c := by
    revert c; decide
  rw [e, Finset.sum_insert n.1, Finset.sum_insert n.2.1, Finset.sum_pair n.2.2]
  simp only [add_assoc]

/-! ## What the host prepares -/

section Host

variable (m : (ℓ : Loc nD τ sig) → Buf (Elt Ideal) ℓ) (c : Dev nD)

/-- The first column of the device's queries. -/
def col : IVec S_ 32 :=
  select (cmpi .slt (muli (id (Host.remui (Host.divui (constantI S_ 32 (Dev.word c)) (constantI S_ 32 1#32)) (constantI S_ 32 4#32))) (constantI S_ 32 256#32)) (constantI S_ 32 0#32))
    (addi (muli (id (Host.remui (Host.divui (constantI S_ 32 (Dev.word c)) (constantI S_ 32 1#32)) (constantI S_ 32 4#32))) (constantI S_ 32 256#32)) (constantI S_ 32 1024#32))
    (muli (id (Host.remui (Host.divui (constantI S_ 32 (Dev.word c)) (constantI S_ 32 1#32)) (constantI S_ 32 4#32))) (constantI S_ 32 256#32))

theorem wIn_eq : wIn m c = m ((c.tc : Thread nD τ).loc main_arg4) := V1_of m c main_arg4 (by decide)

theorem kIn_eq : kIn m c = transpose S2x4x64x256 [0, 2, 3, 1] (m ((c.tc : Thread nD τ).loc main_arg2)) transposes_S2x256x4x64_S2x4x64x256_0_2_3_1 := by
  unfold kIn V1
  after_results_simp <;> rfl

theorem vIn_eq : vIn m c = transpose S2x4x64x256 [0, 2, 3, 1] (m ((c.tc : Thread nD τ).loc main_arg3)) transposes_S2x256x4x64_S2x4x64x256_0_2_3_1 := by
  unfold vIn V1
  after_results_simp <;> rfl

/-- The device's queries. -/
def quers (x : FVec Ideal S2x256x512 .f32) (wq : FVec Ideal S512x1024 .f32) : FVec Ideal S2x256x256 .f32 :=
  mulf (Host.dotGeneral (φ₁ := .f32) (φ₂ := .f32) dot_S2x256x512_S512x256_S2x256x256_2_0_01_1_n_n none x
      (Host.dynamicSlice S512x256 wq (fun k => ((![constantI S_ 32 0#32, col c] : Fin 2 → IVec S_ 32) k (Shape.Idx.first h_S_)).toInt) sliceFits_S512x1024_S512x256))
    (broadcastInDim S2x256x256 ![] bcast_S_S2x256x256 (constant S_ .f32 0x3E000000#32))

theorem qIn_eq : qIn m c = quers c (m ((c.tc : Thread nD τ).loc main_arg0)) (m ((c.tc : Thread nD τ).loc main_arg1)) := by
  unfold qIn V1
  after_results_simp_entrywise
  rfl

theorem kIn_apply (b : Fin 2) (p : Fin 4) (d : Fin 64) (i : Fin 256) : kIn m c (ix4 b p d i) = m ((c.tc : Thread nD τ).loc main_arg2) (ix4 b i p d) := by
  rw [kIn_eq]
  pointwise []

theorem vIn_apply (b : Fin 2) (p : Fin 4) (d : Fin 64) (i : Fin 256) : vIn m c (ix4 b p d i) = m ((c.tc : Thread nD τ).loc main_arg3) (ix4 b i p d) := by
  rw [vIn_eq]
  pointwise []

theorem quers_apply (x : FVec Ideal S2x256x512 .f32) (wq : FVec Ideal S512x1024 .f32) (b : Fin 2) (q j : Fin 256) :
    quers c x wq (ix3 b q j) = (∑ e, x (ix3 b q e) * wq (ix2 e (⟨256 * c.val + j.val, by have : c.val < 4 := c.isLt; omega⟩ : Fin 1024))) * eighth := by
  pointwise [quers]
  refine congrArg (· * _) (Finset.sum_congr rfl fun e _ => congrArg (fun i => x (ix3 b q e) * wq i) ?_)
  have h0 : Host.clampedStart S512x1024 S512x256 sliceFits_S512x1024_S512x256.1 (fun k => ((![constantI S_ 32 0#32, col c] : Fin 2 → IVec S_ 32) k (Shape.Idx.first h_S_)).toInt) 0 = 0 := by
    revert c; decide
  have h1 : Host.clampedStart S512x1024 S512x256 sliceFits_S512x1024_S512x256.1 (fun k => ((![constantI S_ 32 0#32, col c] : Fin 2 → IVec S_ 32) k (Shape.Idx.first h_S_)).toInt) 1 = 256 * c.val := by
    revert c; decide
  funext a
  fin_cases a <;> apply Fin.ext
  · show _ + e.val = e.val
    rw [h0, Nat.zero_add]
  · show _ + j.val = 256 * c.val + j.val
    rw [h1]

end Host

end Cert.Heads

end
-- ==== Proof.Softmax.lean ====
/-
# Attention weights of real scores, over the extended reals
-/
module

public import Idealize.ShloMosaic.Lib.IdealHost

@[expose] public section

noncomputable section

namespace Cert.Heads

open Idealize.ShloMosaic

/-- A nonnegative real factor goes through a finite sum, -/
theorem sum_scale {ι : Type*} (s : Finset ι) (f : ι → EReal) {r : ℝ} (h : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr h) (EReal.coe_ne_top r) _ _

/-- and a sum of reals is a real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals is a real. -/
theorem fold_max_real {n : ℕ} (f : Fin (n + 1) → ℝ) : ∃ t : ℝ, Finset.univ.fold max (⊥ : EReal) (fun i => (f i : EReal)) = (t : EReal) := by
  have hb : Finset.univ.fold max (⊥ : EReal) (fun i => (f i : EReal)) ≠ ⊥ := by
    intro h
    have : (f 0 : EReal) ≤ Finset.univ.fold max (⊥ : EReal) (fun i => (f i : EReal)) :=
      Finset.le_fold_max _ |>.mpr (Or.inr ⟨0, Finset.mem_univ _, le_rfl⟩)
    rw [h] at this
    exact EReal.coe_ne_bot _ (le_bot_iff.mp this)
  have ht : Finset.univ.fold max (⊥ : EReal) (fun i => (f i : EReal)) ≠ ⊤ :=
    (Finset.fold_max_lt _ |>.mpr ⟨bot_lt_top, fun i _ => EReal.coe_lt_top _⟩).ne
  exact ⟨_, (EReal.coe_toReal ht hb).symm⟩

theorem exp_coe (r : ℝ) : Ideal.exp (r : EReal) = (Real.exp r : EReal) := rfl

/-- One head's weighted sum: dividing at the end, or first shifting the scores and dividing each weight. -/
theorem weigh {n : ℕ} (s : Fin (n + 1) → ℝ) (v : Fin (n + 1) → EReal) (t : ℝ) :
    Ideal.div (∑ i, Ideal.exp (s i : EReal) * v i) (∑ i, Ideal.exp (s i : EReal))
      = ∑ i, v i * Ideal.div (Ideal.exp ((s i : EReal) - (t : EReal))) (∑ j, Ideal.exp ((s j : EReal) - (t : EReal))) := by
  have e : ∀ i, Ideal.exp ((s i : EReal) - (t : EReal)) = ((Real.exp (s i - t) : ℝ) : EReal) := fun i => by
    rw [← EReal.coe_sub, exp_coe]
  simp only [e, exp_coe]
  rw [← coe_sum, ← coe_sum]
  have hZ : 0 < ∑ i, Real.exp (s i) := Finset.sum_pos (fun i _ => Real.exp_pos _) Finset.univ_nonempty
  have hY : 0 < ∑ i, Real.exp (s i - t) := Finset.sum_pos (fun i _ => Real.exp_pos _) Finset.univ_nonempty
  rw [Ideal.div_coe hZ.ne', sum_scale _ _ (one_div_pos.mpr hZ).le]
  refine Finset.sum_congr rfl fun i _ => ?_
  rw [Ideal.div_coe hY.ne', mul_comm _ (v i), mul_assoc, ← EReal.coe_mul, ← EReal.coe_mul]
  congr 2
  have : ∑ i, Real.exp (s i - t) = (∑ i, Real.exp (s i)) * (Real.exp t)⁻¹ := by
    rw [Finset.sum_mul]
    exact Finset.sum_congr rfl fun i _ => by rw [Real.exp_sub, div_eq_mul_inv]
  rw [this, Real.exp_sub]
  have := Real.exp_pos t
  field_simp

/-- Scaling the queries, or the scores. -/
theorem scale_score {m n : ℕ} (x : Fin m → ℝ) (w : Fin m → Fin n → ℝ) (k : Fin n → ℝ) (r : ℝ) :
    ∑ d, ((∑ e, (x e : EReal) * (w e d : EReal)) * (r : EReal)) * (k d : EReal)
        = ((∑ d, ((∑ e, x e * w e d) * r) * k d : ℝ) : EReal)
    ∧ (∑ d, (∑ e, (x e : EReal) * (w e d : EReal)) * (k d : EReal)) * (r : EReal)
        = ((∑ d, ((∑ e, x e * w e d) * r) * k d : ℝ) : EReal) := by
  have h : ∀ d, ∑ e, (x e : EReal) * (w e d : EReal) = ((∑ e, x e * w e d : ℝ) : EReal) := fun d => by
    rw [coe_sum]
    exact Finset.sum_congr rfl fun e _ => (EReal.coe_mul _ _).symm
  simp only [h, ← EReal.coe_mul, ← coe_sum]
  refine ⟨trivial, ?_⟩
  rw [Finset.sum_mul]
  congr 1
  exact Finset.sum_congr rfl fun d _ => by ring

end Cert.Heads

end
-- ==== Proof.Equal.lean ====
/-
# The kernel's result is the reference's
-/
module

public import proofs.«01_k».proof.Proof.Frames
public import proofs.«01_k».proof.Proof.Heads
public import proofs.«01_k».proof.Proof.Softmax
public import Idealize.ShloMosaic.Lib.ReduceAll
public import proofs.«01_k».proof.Proof.Gen.Pre_finite_scores_KernelIdeal

@[expose] public section

noncomputable section

namespace Cert.Heads

open Cert.KernelIdeal Cert.KernelIdeal.Gen
open Idealize.ShloMosaic Idealize.ShloMosaic.TcCoe Idealize.SL.Sem
open Cert.Heads.Plain (low eighth)

/-! ## Reals -/

theorem low_real : ∃ r : ℝ, low = (r : EReal) := by
  unfold low
  simp [Ideal.ofBits, Ideal.ieee, -EReal.coe_mul, -EReal.coe_neg]

theorem eighth_real : ∃ r : ℝ, eighth = (r : EReal) := by
  unfold eighth
  simp [Ideal.ofBits, Ideal.ieee, -EReal.coe_mul]

/-- A value whose magnitude is under infinity is a real. -/
theorem real_of_lt {a : EReal} (h : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h
  have h := (Ideal.cmp_olt_eq_one _ _).mp h
  refine ⟨a.toReal, (EReal.coe_toReal ?_ ?_).symm⟩
  · rintro rfl; simp at h
  · rintro rfl; simp at h

theorem and_parts {a b : BitVec 1} (h : IntOp.andi a b = 1#1) : a = 1#1 ∧ b = 1#1 := IntOp.andi_eq_one.mp h

/-- What the precondition says of the queries' two factors and of the keys. -/
theorem reals (x : FVec Ideal S2x256x512 .f32) (wq : FVec Ideal S512x1024 .f32) (k v : FVec Ideal S2x256x4x64 .f32) (wo : FVec Ideal S1024x512 .f32)
    (h : Cert.Pre_finite_scores_KernelIdeal.fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have h := congrFun h ix0
  obtain ⟨h, hk⟩ := and_parts h
  obtain ⟨hx, hw⟩ := and_parts h
  exact ⟨fun i => real_of_lt (Host.reduce_andi_all _ _ _ _ _ hx i), fun i => real_of_lt (Host.reduce_andi_all _ _ _ _ _ hw i),
    fun i => real_of_lt (Host.reduce_andi_all _ _ _ _ _ hk i)⟩

/-! ## One head -/

theorem seen_real (q j : Fin 256) (r : ℝ) : ∃ t : ℝ, seen q j (r : EReal) = (t : EReal) := by
  obtain ⟨l, hl⟩ := low_real
  unfold seen
  by_cases h : j.val / 64 ≤ q.val / 64
  · exact ⟨r, by simp [Scalar.select, h]⟩
  · exact ⟨l, by simp [Scalar.select, h, hl]⟩

/-- The head of number P of the reference is that of number p of device o, P being 4 o + p. -/
theorem same_head (x : FVec Ideal S2x256x512 .f32) (wq : FVec Ideal S512x1024 .f32) (K V : FVec Ideal Cert.ReferenceIdeal.S2x256x16x64 .f32)
    (gK gV : S2x4x64x256.Idx → EReal) (o : Dev nD) (p : Fin 4) (P : Fin 16) (hP : P.val = 4 * o.val + p.val)
    (hK : ∀ b e i, gK (ix4 b p e i) = K (ix4 b i P e)) (hV : ∀ b e i, gV (ix4 b p e i) = V (ix4 b i P e))
    (rx : ∀ i, ∃ r : ℝ, x i = (r : EReal)) (rw' : ∀ i, ∃ r : ℝ, wq i = (r : EReal)) (rk : ∀ i, ∃ r : ℝ, gK i = (r : EReal))
    (b : Fin 2) (q : Fin 256) (d : Fin 64) :
    headS (quers o x wq) gK gV b p q d
      = ∑ i, V (ix4 b i P d) * Plain.weight (Plain.expo (Plain.score K (Plain.quer x wq))) (ix4 b P q i) := by
  choose X hX using rx
  choose W hW using rw'
  choose Y hY using rk
  obtain ⟨r8, h8⟩ := eighth_real
  have hlt : ∀ e : Fin 64, P.val * 64 + e.val < 1024 := fun e => by omega
  -- both scores are one real
  have hs := fun i : Fin 256 => scale_score (fun e : Fin 512 => X (ix3 b q e)) (fun e (d : Fin 64) => W (ix2 e (⟨P.val * 64 + d.val, hlt d⟩ : Fin 1024)))
    (fun d => Y (ix4 b p d i)) r8
  have kern : ∀ i, ∑ e : Fin 64, quers o x wq (ix3 b q (⟨64 * p.val + e.val, by omega⟩ : Fin 256)) * gK (ix4 b p e i) = _ := fun i => by
    refine Eq.trans (Finset.sum_congr rfl fun e _ => ?_) (hs i).1
    rw [quers_apply, h8, hY]
    have : ∀ h, (⟨256 * o.val + (64 * p.val + e.val), h⟩ : Fin 1024) = ⟨P.val * 64 + e.val, hlt e⟩ := fun h => Fin.ext (by show 256 * o.val + (64 * p.val + e.val) = P.val * 64 + e.val; omega)
    simp only [this, hX, hW]
  have refe : ∀ i, (∑ e : Fin 64, Plain.quer x wq (ix4 b q P e) * K (ix4 b i P e)) * eighth = _ := fun i => by
    refine Eq.trans ?_ (hs i).2
    rw [h8]
    refine congrArg (· * _) (Finset.sum_congr rfl fun e _ => ?_)
    rw [Plain.quer_apply, ← hK, hY]
    simp only [hX, hW]
  choose T hT using fun i => seen_real q i (∑ d : Fin 64, ((∑ e : Fin 512, X (ix3 b q e) * W (ix2 e (⟨P.val * 64 + d.val, hlt d⟩ : Fin 1024))) * r8) * Y (ix4 b p d i))
  have hsc : ∀ i, Plain.score K (Plain.quer x wq) (ix4 b P q i) = (T i : EReal) := fun i => by
    rw [Plain.score_apply, refe]
    exact hT i
  obtain ⟨t, ht⟩ := fold_max_real T
  have htop : Plain.top (Plain.score K (Plain.quer x wq)) (ix3 b P q) = (t : EReal) := by
    rw [Plain.top_apply]
    simp only [hsc]
    exact ht
  unfold headS weighted
  simp only [kern, hT, hV, Plain.weight_apply, Plain.expo_apply, hsc, htop]
  exact weigh T _ t

/-! ## All of it -/

theorem block_at (c : Dev nD) (K : FVec Ideal Cert.ReferenceIdeal.S2x256x16x64 .f32) (b : Fin 2) (i : Fin 256) (p : Fin 4) (P : Fin 16) (e : Fin 64)
    (hP : P.val = 4 * c.val + p.val) : Layout.block ⟨4, ![2, 256, 4, 64]⟩ ⟨4, ![2, 256, 16, 64]⟩ 2 4 c K (by decide) (ix4 b i p e) = K (ix4 b i P e) := by
  rw [Layout.block_apply]
  refine congrArg K ?_
  funext a
  fin_cases a <;> apply Fin.ext
  · rfl
  · rfl
  · show c.val * 4 + p.val = P.val; omega
  · rfl

section Whole

variable (m : (ℓ : Loc nD τ sig) → Buf (Elt Ideal) ℓ)
  (x : FVec Ideal S2x256x512 .f32) (wq : FVec Ideal S512x1024 .f32) (K V : FVec Ideal Cert.ReferenceIdeal.S2x256x16x64 .f32) (wo : FVec Ideal S1024x512 .f32)

/-- Every device's result is the reference's value, its arguments being the reference's. -/
theorem res_eq (hx : ∀ c : Dev nD, m ((c.tc : Thread nD τ).loc main_arg0) = x) (hq : ∀ c : Dev nD, m ((c.tc : Thread nD τ).loc main_arg1) = wq)
    (hk : ∀ c : Dev nD, m ((c.tc : Thread nD τ).loc main_arg2) = Layout.block ⟨4, ![2, 256, 4, 64]⟩ ⟨4, ![2, 256, 16, 64]⟩ 2 4 c K)
    (hv : ∀ c : Dev nD, m ((c.tc : Thread nD τ).loc main_arg3) = Layout.block ⟨4, ![2, 256, 4, 64]⟩ ⟨4, ![2, 256, 16, 64]⟩ 2 4 c V)
    (ho : ∀ c : Dev nD, m ((c.tc : Thread nD τ).loc main_arg4) = wo)
    (pre : Cert.Pre_KernelIdeal_finite_scores_KernelIdeal (hPre_finite_scores_KernelIdeal := Cert.Pre_finite_scores_KernelIdeal.Gen.facts) m) (c : Dev nD) :
    res m c = Plain.proj wo (Plain.atten V (Plain.weight (Plain.expo (Plain.score K (Plain.quer x wq))))) := by
  have hatt : ∀ (o : Dev nD) (b : Fin 2) (q j : Fin 256) (h : o.val * 256 + j.val < 1024), att m o (ix3 b q j)
      = Plain.atten V (Plain.weight (Plain.expo (Plain.score K (Plain.quer x wq)))) (ix3 b q (⟨o.val * 256 + j.val, h⟩ : Fin 1024)) := fun o b q j h => by
    have R := reals _ _ _ _ _ (pre o)
    rw [hx o, hq o] at R
    have e : j = ⟨64 * (⟨j.val / 64, by omega⟩ : Fin 4).val + (⟨j.val % 64, by omega⟩ : Fin 64).val, by show 64 * (j.val / 64) + j.val % 64 < 256; omega⟩ :=
      Fin.ext (by show j.val = 64 * (j.val / 64) + j.val % 64; omega)
    conv_lhs => rw [e]
    unfold att
    have hq' : qIn m o = quers o x wq := by rw [qIn_eq, hx o, hq o]
    have hP : (⟨(o.val * 256 + j.val) / 64, by omega⟩ : Fin 16).val = 4 * o.val + (⟨j.val / 64, by omega⟩ : Fin 4).val := by
      show (o.val * 256 + j.val) / 64 = 4 * o.val + j.val / 64; omega
    have hd : (⟨(o.val * 256 + j.val) % 64, by omega⟩ : Fin 64) = ⟨j.val % 64, by omega⟩ := Fin.ext (by show (o.val * 256 + j.val) % 64 = j.val % 64; omega)
    rw [attnV_apply, Plain.atten_apply, hq', hd]
    refine same_head x wq K V _ _ o _ _ hP (fun b e i => ?_) (fun b e i => ?_) R.1 R.2.1 (fun i => ?_) b q _
    · rw [kIn_apply, hk o]; exact block_at o K b i _ _ e hP
    · rw [vIn_apply, hv o]; exact block_at o V b i _ _ e hP
    · idx_vars i
      rw [kIn_apply]
      exact R.2.2 _
  have hw : ∀ o, wIn m o = wo := fun o => (wIn_eq m o).trans (ho o)
  funext i
  idx_vars i
  unfold res
  rw [outC_apply, hw, parts_all (fun o => part wo o (att m o) i0 i1 i2) c, Plain.proj_apply, Fin.sum_univ_tiles (N := 1024) 4 256 rfl]
  refine Finset.sum_congr rfl fun o _ => Finset.sum_congr rfl fun j _ => ?_
  have ho4 : o.val < 4 := o.isLt
  rw [hatt o i0 i1 j (by omega)]
  refine congrArg (fun i => _ * wo i) ?_
  refine congrArg (ix2 · i2) (Fin.ext ?_)
  show 256 * o.val + j.val = o.val * 256 + j.val
  omega

end Whole

/-- The value claim. -/
theorem algebraic : Cert.algebraic_KernelIdeal_ReferenceIdeal_pre_finite_scores_KernelIdeal := fun m ρ m' ρ' pre agree => by
  have hres : ∀ c, res m c = Cert.ReferenceIdeal.Value.res_main_v34 (F := Ideal) m' 0 := fun c => by
    rw [Plain.staged]
    exact res_eq m _ _ _ _ _ (fun c => (agree c).1) (fun c => (agree c).2.1) (fun c => (agree c).2.2.1) (fun c => (agree c).2.2.2.1)
      (fun c => (agree c).2.2.2.2) pre c
  refine ⟨Cert.ReferenceIdeal.Value.res_main_v34 (F := Ideal) m' 0, ?_, ?_⟩
  · exact (θ_run defs _ _).mono (fun r h c => ⟨(result_is m h.1 c).trans (hres c), args_kept m h.1 c⟩) (run_main m ρ)
  · exact (θ_run Cert.ReferenceIdeal.defs _ _).mono (fun r h => h 0) (Cert.ReferenceIdeal.Value.run m' ρ')

end Cert.Heads

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_scores_KernelIdeal.Gen.facts, Cert.Pre_finite_scores_ReferenceIdeal.Gen.facts,
  Cert.Heads.frame_kernel, Cert.Heads.frame_ideal, fun m ρ h => Cert.Heads.frame_ideal m ρ trivial,
  Cert.Heads.frame_reference, fun m ρ h => Cert.Heads.frame_reference m ρ trivial, trivial,
  Cert.Heads.algebraic⟩

end Cert.Proof

end
